-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384 : Shape := ⟨1, ![16384]⟩
abbrev S1000000x32 : Shape := ⟨2, ![1000000, 32]⟩
abbrev S100000x32 : Shape := ⟨2, ![100000, 32]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S1000000x32 .f32) (main_arg3 : FVec F S100000x32 .f32) (main_arg4 : FVec F S128x64 .f32) (main_arg5 : FVec F S128 .f32) (main_arg6 : FVec F S64x128 .f32) (main_arg7 : FVec F S64 .f32) (main_arg8 : FVec F S1x64 .f32) (main_arg9 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg1 main_v6
  let main_c_3 : IVec S_ 32 := constantI S_ 32 100000#32
  let main_v8 : IVec S16384 32 := broadcastInDim S16384 ![] bcast_S_S16384 main_c_3
  let main_v9 : IVec S16384 1 := cmpi .slt main_arg1 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  main_v12
-- ==== Kernel.lean ====
abbrev S16384 : Shape := ⟨1, ![16384]⟩
abbrev S1000000x32 : Shape := ⟨2, ![1000000, 32]⟩
abbrev S100000x32 : Shape := ⟨2, ![100000, 32]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S32x100000 : Shape := ⟨2, ![32, 100000]⟩
abbrev S4x8x100000 : Shape := ⟨3, ![4, 8, 100000]⟩
abbrev S32768x128 : Shape := ⟨2, ![32768, 128]⟩
abbrev S1x8x65536 : Shape := ⟨3, ![1, 8, 65536]⟩
abbrev S16384x128 : Shape := ⟨2, ![16384, 128]⟩
abbrev S8x65536 : Shape := ⟨2, ![8, 65536]⟩
abbrev S32x65536 : Shape := ⟨2, ![32, 65536]⟩
abbrev S32x16384 : Shape := ⟨2, ![32, 16384]⟩
abbrev S128x16384 : Shape := ⟨2, ![128, 16384]⟩
abbrev S128x128 : Shape := ⟨2, ![128, 128]⟩
abbrev S32x1000000 : Shape := ⟨2, ![32, 1000000]⟩
abbrev S4x8x1000000 : Shape := ⟨3, ![4, 8, 1000000]⟩
abbrev S262144x128 : Shape := ⟨2, ![262144, 128]⟩
abbrev S_ : Shape := ⟨0, ![]⟩
abbrev S512 : Shape := ⟨1, ![512]⟩
abbrev S128x32 : Shape := ⟨2, ![128, 32]⟩
abbrev S1024x128 : Shape := ⟨2, ![1024, 128]⟩
abbrev S1024 : Shape := ⟨1, ![1024]⟩
abbrev S1024x32 : Shape := ⟨2, ![1024, 32]⟩
abbrev S1024x1 : Shape := ⟨2, ![1024, 1]⟩
abbrev S1024x64 : Shape := ⟨2, ![1024, 64]⟩
abbrev S1x128 : Shape := ⟨2, ![1, 128]⟩

abbrev nBuf : Table → Nat
  | .hbm => 55
  | .local .tc .vmem => 37
  | .local .scVector .vmem => 6
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S1000000x32, .f32⟩
  | .hbm, ⟨3, _⟩ => ⟨S100000x32, .f32⟩
  | .hbm, ⟨4, _⟩ => ⟨S128x64, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S32x100000, .f32⟩
  | .hbm, ⟨11, _⟩ => ⟨S4x8x100000, .f32⟩
  | .hbm, ⟨12, _⟩ => ⟨S32768x128, .f32⟩
  | .hbm, ⟨13, _⟩ => ⟨S32x1000000, .f32⟩
  | .hbm, ⟨14, _⟩ => ⟨S32768x128, .f32⟩
  | .hbm, ⟨15, _⟩ => ⟨S32x1000000, .f32⟩
  | .hbm, ⟨16, _⟩ => ⟨S4x8x1000000, .f32⟩
  | .hbm, ⟨17, _⟩ => ⟨S262144x128, .f32⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S_, .i32⟩
  | .hbm, ⟨35, _⟩ => ⟨S16384, .i32⟩
  | .hbm, ⟨36, _⟩ => ⟨S16384, .i32⟩
  | .hbm, ⟨37, _⟩ => ⟨S16384, .i32⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S_, .i32⟩
  | .hbm, ⟨42, _⟩ => ⟨S16384, .i32⟩
  | .hbm, ⟨43, _⟩ => ⟨S16384, .i32⟩
  | .hbm, ⟨44, _⟩ => ⟨S_, .i32⟩
  | .hbm, ⟨45, _⟩ => ⟨S16384, .i32⟩
  | .hbm, ⟨46, _⟩ => ⟨S16384, .i32⟩
  | .hbm, ⟨47, _⟩ => ⟨S_, .i32⟩
  | .hbm, ⟨48, _⟩ => ⟨S16384, .i32⟩
  | .hbm, ⟨49, _⟩ => ⟨S16384, .i32⟩
  | .hbm, ⟨50, _⟩ => ⟨S16384x128, .f32⟩
  | .hbm, ⟨51, _⟩ => ⟨S16384x128, .f32⟩
  | .hbm, ⟨52, _⟩ => ⟨S128x32, .f32⟩
  | .hbm, ⟨53, _⟩ => ⟨S128x32, .f32⟩
  | .hbm, ⟨54, _⟩ => ⟨S16384, .f32⟩
  | .local .tc .vmem, ⟨0, _⟩ => ⟨S1x8x65536, .f32⟩
  | .local .tc .vmem, ⟨1, _⟩ => ⟨S1x8x65536, .f32⟩
  | .local .tc .vmem, ⟨2, _⟩ => ⟨S1x8x65536, .f32⟩
  | .local .tc .vmem, ⟨3, _⟩ => ⟨S1x8x65536, .f32⟩
  | .local .tc .vmem, ⟨4, _⟩ => ⟨S1x8x65536, .f32⟩
  | .local .tc .vmem, ⟨5, _⟩ => ⟨S1x8x65536, .f32⟩
  | .local .tc .vmem, ⟨6, _⟩ => ⟨S1x8x65536, .f32⟩
  | .local .tc .vmem, ⟨7, _⟩ => ⟨S1x8x65536, .f32⟩
  | .local .tc .vmem, ⟨8, _⟩ => ⟨S16384x128, .f32⟩
  | .local .tc .vmem, ⟨9, _⟩ => ⟨S16384x128, .f32⟩
  | .local .tc .vmem, ⟨10, _⟩ => ⟨S1x8x65536, .f32⟩
  | .local .tc .vmem, ⟨11, _⟩ => ⟨S1x8x65536, .f32⟩
  | .local .tc .vmem, ⟨12, _⟩ => ⟨S1x8x65536, .f32⟩
  | .local .tc .vmem, ⟨13, _⟩ => ⟨S1x8x65536, .f32⟩
  | .local .tc .vmem, ⟨14, _⟩ => ⟨S1x8x65536, .f32⟩
  | .local .tc .vmem, ⟨15, _⟩ => ⟨S1x8x65536, .f32⟩
  | .local .tc .vmem, ⟨16, _⟩ => ⟨S1x8x65536, .f32⟩
  | .local .tc .vmem, ⟨17, _⟩ => ⟨S1x8x65536, .f32⟩
  | .local .tc .vmem, ⟨18, _⟩ => ⟨S16384x128, .f32⟩
  | .local .tc .vmem, ⟨19, _⟩ => ⟨S16384x128, .f32⟩
  | .local .tc .vmem, ⟨20, _⟩ => ⟨S1024x128, .f32⟩
  | .local .tc .vmem, ⟨21, _⟩ => ⟨S1024x128, .f32⟩
  | .local .tc .vmem, ⟨22, _⟩ => ⟨S1024x128, .f32⟩
  | .local .tc .vmem, ⟨23, _⟩ => ⟨S1024x128, .f32⟩
  | .local .tc .vmem, ⟨24, _⟩ => ⟨S1024, .i32⟩
  | .local .tc .vmem, ⟨25, _⟩ => ⟨S1024, .i32⟩
  | .local .tc .vmem, ⟨26, _⟩ => ⟨S1024, .i32⟩
  | .local .tc .vmem, ⟨27, _⟩ => ⟨S1024, .i32⟩
  | .local .tc .vmem, ⟨28, _⟩ => ⟨S128x32, .f32⟩
  | .local .tc .vmem, ⟨29, _⟩ => ⟨S128x32, .f32⟩
  | .local .tc .vmem, ⟨30, _⟩ => ⟨S128, .f32⟩
  | .local .tc .vmem, ⟨31, _⟩ => ⟨S64x128, .f32⟩
  | .local .tc .vmem, ⟨32, _⟩ => ⟨S64, .f32⟩
  | .local .tc .vmem, ⟨33, _⟩ => ⟨S1x64, .f32⟩
  | .local .tc .vmem, ⟨34, _⟩ => ⟨S1, .f32⟩
  | .local .tc .vmem, ⟨35, _⟩ => ⟨S1024, .f32⟩
  | .local .tc .vmem, ⟨36, _⟩ => ⟨S1024, .f32⟩
  | .local .scVector .vmem, ⟨0, _⟩ => ⟨S512, .i32⟩
  | .local .scVector .vmem, ⟨1, _⟩ => ⟨S64x128, .f32⟩
  | .local .scVector .vmem, ⟨2, _⟩ => ⟨S64x128, .f32⟩
  | .local .scVector .vmem, ⟨3, _⟩ => ⟨S512, .i32⟩
  | .local .scVector .vmem, ⟨4, _⟩ => ⟨S64x128, .f32⟩
  | .local .scVector .vmem, ⟨5, _⟩ => ⟨S64x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTables nBuf rfl bufTy 4 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_c_7 : Ref sig .tc := ⟨.hbm, 44, rfl⟩
abbrev main_v25 : Ref sig .tc := ⟨.hbm, 45, rfl⟩
abbrev main_v26 : Ref sig .tc := ⟨.hbm, 46, rfl⟩
abbrev main_c_8 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v4_0_scv : Ref sig .scVector := ⟨.hbm, 14, rfl⟩
abbrev main_v20_scv : Ref sig .scVector := ⟨.hbm, 37, rfl⟩
abbrev main_v29_scv : Ref sig .scVector := ⟨.hbm, 50, rfl⟩
abbrev main_v6_scv : Ref sig .scVector := ⟨.hbm, 17, rfl⟩
abbrev main_v13_scv : Ref sig .scVector := ⟨.hbm, 27, rfl⟩
abbrev main_v30_scv : Ref sig .scVector := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc4_stg3_0 : Ref sig .tc := ⟨.vmem, 26, rfl⟩
abbrev cc4_stg3_1 : Ref sig .tc := ⟨.vmem, 27, rfl⟩
abbrev cc4_stg4_0 : Ref sig .tc := ⟨.vmem, 28, rfl⟩
abbrev cc4_stg5_0 : Ref sig .tc := ⟨.vmem, 29, rfl⟩
abbrev cc4_stg6_0 : Ref sig .tc := ⟨.vmem, 30, rfl⟩
abbrev cc4_stg7_0 : Ref sig .tc := ⟨.vmem, 31, rfl⟩
abbrev cc4_stg8_0 : Ref sig .tc := ⟨.vmem, 32, rfl⟩
abbrev cc4_stg9_0 : Ref sig .tc := ⟨.vmem, 33, rfl⟩
abbrev cc4_stg10_0 : Ref sig .tc := ⟨.vmem, 34, rfl⟩
abbrev cc4_stg11_0 : Ref sig .tc := ⟨.vmem, 35, rfl⟩
abbrev cc4_stg11_1 : Ref sig .tc := ⟨.vmem, 36, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc3_scratch0 : Ref sig .scVector := ⟨.vmem, 3, rfl⟩
abbrev cc3_scratch1 : Ref sig .scVector := ⟨.vmem, 4, rfl⟩
abbrev cc3_scratch2 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem3_1 : DmaSem sig := 49
abbrev cc4_sem4_0 : DmaSem sig := 50
abbrev cc4_sem5_0 : DmaSem sig := 51
abbrev cc4_sem6_0 : DmaSem sig := 52
abbrev cc4_sem7_0 : DmaSem sig := 53
abbrev cc4_sem8_0 : DmaSem sig := 54
abbrev cc4_sem9_0 : DmaSem sig := 55
abbrev cc4_sem10_0 : DmaSem sig := 56
abbrev cc4_sem11_0 : DmaSem sig := 57
abbrev cc4_sem11_1 : DmaSem sig := 58
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x8x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x65536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc1_transform_2 (i : grid1.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc1_transform_3 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x8x65536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x65536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x8x65536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x8x65536 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16384x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k2_off2 (i : grid2.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v13 : BitVec 32 := Scalar.addi v2 c0_i32_7
  let c0_i32_48_r0 : BitVec 32 := 0#32
  ![v13.toNat, 0]
abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k3_off2 (i : grid3.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v13 : BitVec 32 := Scalar.addi v2 c0_i32_7
  let c0_i32_48_r0 : BitVec 32 := 0#32
  ![v13.toNat, 0]
abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  ![arg0.toNat]

def cc4_transform_3 (i : grid4.Coords) : Fin 1 → Nat :=
  let arg0 : BitVec 32 := BitVec.ofNat 32 (i 0).val
  let c0_i32 : BitVec 32 := 0#32
  ![arg0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_11 (i : grid4.Coords) : Fin 1 → Nat :=
  let arg0 : BitVec 32 := BitVec.ofNat 32 (i 0).val
  let c0_i32 : BitVec 32 := 0#32
  ![arg0.toNat]

abbrev stage4_0 : Fin 2 → Memref sig .tc .vmem S1024x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1024 .i32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1024 .i32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S128x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S1024 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384 : Shape := ⟨1, ![16384]⟩
abbrev S1000000x32 : Shape := ⟨2, ![1000000, 32]⟩
abbrev S100000x32 : Shape := ⟨2, ![100000, 32]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x32 : Shape := ⟨2, ![16384, 32]⟩
abbrev S16384x64 : Shape := ⟨2, ![16384, 64]⟩
abbrev S16384x128 : Shape := ⟨2, ![16384, 128]⟩
abbrev S1x128 : Shape := ⟨2, ![1, 128]⟩
abbrev S64x1 : Shape := ⟨2, ![64, 1]⟩

abbrev nBuf : Space → Nat
  | .hbm => 79
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x32, .f32⟩
  | .hbm, ⟨3, _⟩ => ⟨S100000x32, .f32⟩
  | .hbm, ⟨4, _⟩ => ⟨S128x64, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S1, .i32⟩
  | .hbm, ⟨19, _⟩ => ⟨S_, .i32⟩
  | .hbm, ⟨20, _⟩ => ⟨S16384x1, .i32⟩
  | .hbm, ⟨21, _⟩ => ⟨S16384x1, .i1⟩
  | .hbm, ⟨22, _⟩ => ⟨S1x1, .i32⟩
  | .hbm, ⟨23, _⟩ => ⟨S16384x1, .i32⟩
  | .hbm, ⟨24, _⟩ => ⟨S16384x1, .i1⟩
  | .hbm, ⟨25, _⟩ => ⟨S16384x1, .i1⟩
  | .hbm, ⟨26, _⟩ => ⟨S_, .i1⟩
  | .hbm, ⟨27, _⟩ => ⟨S16384, .i1⟩
  | .hbm, ⟨28, _⟩ => ⟨S16384x32, .f32⟩
  | .hbm, ⟨29, _⟩ => ⟨S16384x32, .i1⟩
  | .hbm, ⟨30, _⟩ => ⟨S_, .f32⟩
  | .hbm, ⟨31, _⟩ => ⟨S16384x32, .f32⟩
  | .hbm, ⟨32, _⟩ => ⟨S16384x32, .f32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S1x1, .i32⟩
  | .hbm, ⟨46, _⟩ => ⟨S16384x1, .i32⟩
  | .hbm, ⟨47, _⟩ => ⟨S16384x1, .i1⟩
  | .hbm, ⟨48, _⟩ => ⟨S16384x1, .i1⟩
  | .hbm, ⟨49, _⟩ => ⟨S_, .i1⟩
  | .hbm, ⟨50, _⟩ => ⟨S16384, .i1⟩
  | .hbm, ⟨51, _⟩ => ⟨S16384x32, .f32⟩
  | .hbm, ⟨52, _⟩ => ⟨S16384x32, .i1⟩
  | .hbm, ⟨53, _⟩ => ⟨S_, .f32⟩
  | .hbm, ⟨54, _⟩ => ⟨S16384x32, .f32⟩
  | .hbm, ⟨55, _⟩ => ⟨S16384x32, .f32⟩
  | .hbm, ⟨56, _⟩ => ⟨S16384x64, .f32⟩
  | .hbm, ⟨57, _⟩ => ⟨S64x128, .f32⟩
  | .hbm, ⟨58, _⟩ => ⟨S16384x128, .f32⟩
  | .hbm, ⟨59, _⟩ => ⟨S1x128, .f32⟩
  | .hbm, ⟨60, _⟩ => ⟨S16384x128, .f32⟩
  | .hbm, ⟨61, _⟩ => ⟨S16384x128, .f32⟩
  | .hbm, ⟨62, _⟩ => ⟨S_, .f32⟩
  | .hbm, ⟨63, _⟩ => ⟨S16384x128, .f32⟩
  | .hbm, ⟨64, _⟩ => ⟨S16384x128, .f32⟩
  | .hbm, ⟨65, _⟩ => ⟨S128x64, .f32⟩
  | .hbm, ⟨66, _⟩ => ⟨S16384x64, .f32⟩
  | .hbm, ⟨67, _⟩ => ⟨S1x64, .f32⟩
  | .hbm, ⟨68, _⟩ => ⟨S16384x64, .f32⟩
  | .hbm, ⟨69, _⟩ => ⟨S16384x64, .f32⟩
  | .hbm, ⟨70, _⟩ => ⟨S_, .f32⟩
  | .hbm, ⟨71, _⟩ => ⟨S16384x64, .f32⟩
  | .hbm, ⟨72, _⟩ => ⟨S16384x64, .f32⟩
  | .hbm, ⟨73, _⟩ => ⟨S64x1, .f32⟩
  | .hbm, ⟨74, _⟩ => ⟨S16384x1, .f32⟩
  | .hbm, ⟨75, _⟩ => ⟨S1x1, .f32⟩
  | .hbm, ⟨76, _⟩ => ⟨S16384x1, .f32⟩
  | .hbm, ⟨77, _⟩ => ⟨S16384x1, .f32⟩
  | .hbm, ⟨78, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v1 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_call2_cst : Ref sig .tc := ⟨.hbm, 62, rfl⟩
abbrev main_call2_v0 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_call3_cst : Ref sig .tc := ⟨.hbm, 70, rfl⟩
abbrev main_call3_v0 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩

abbrev nD : Nat := 1
abbrev τ : Topo := Topo.v7x

variable {F : FTy → Type} [FloatOps F]
-- ==== Proof.Base.lean ====
/-
  The set-up both SparseCore calls and the three TensorCore calls share: the launch theorem's view of the program, the
  resource algebra, shares of a table, and the pieces the arrays are cut into (32 tasks, 8 chunks each).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton

@[expose] public section

noncomputable section

namespace Cert.Proof.Mov

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 3) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are four, none of them scoped, and no scoped buffer of a sequencer is shared with its tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL

/-! ## Pieces -/

theorem part32 : 32 ∣ S16384.size 0 := ⟨512, rfl⟩
theorem part256 : 256 ∣ S16384x128.size 0 := ⟨64, rfl⟩
theorem part8 : 8 ∣ S512.size 0 := ⟨64, rfl⟩

/-- The 512 list entries of task `w`. -/
abbrev lRect (w : Fin 32) : Rect S16384 := Rect.part (s := S16384) (a₀ := 0) part32 w
/-- The 64 rows of chunk `k` of the result: chunk `8 w + r` is task `w`'s chunk `r`. -/
abbrev oRect (k : Fin 256) : Rect S16384x128 := Rect.part (s := S16384x128) (a₀ := 0) part256 k
/-- Chunk `r` of a task's own copy of its list. -/
abbrev sRect (r : Fin 8) : Rect S512 := Rect.part (s := S512) (a₀ := 0) part8 r

/-- Chunk `r` of task `w`. -/
abbrev chunk (w : Fin 32) (r : Fin 8) : Fin 256 := ⟨8 * w.val + r.val, by omega⟩

theorem oRect_disjoint : ∀ i ∈ (Finset.univ : Finset (Fin 256)), ∀ j ∈ (Finset.univ : Finset (Fin 256)), i ≠ j → Disjoint (oRect i).set (oRect j).set :=
  fun _ _ _ _ h => Rect.part_disjoint part256 h
theorem oRect_cover : (Finset.univ : Finset (Fin 256)).biUnion (fun k => (oRect k).set) = Finset.univ := Rect.biUnion_part part256
theorem lRect_disjoint : ∀ i ∈ (Finset.univ : Finset (Fin 32)), ∀ j ∈ (Finset.univ : Finset (Fin 32)), i ≠ j → Disjoint (lRect i).set (lRect j).set :=
  fun _ _ _ _ h => Rect.part_disjoint part32 h
theorem lRect_cover : (Finset.univ : Finset (Fin 32)).biUnion (fun k => (lRect k).set) = Finset.univ := Rect.biUnion_part part32
theorem sRect_disjoint : ∀ i ∈ (Finset.univ : Finset (Fin 8)), ∀ j ∈ (Finset.univ : Finset (Fin 8)), i ≠ j → Disjoint (sRect i).set (sRect j).set :=
  fun _ _ _ _ h => Rect.part_disjoint part8 h
theorem sRect_cover : (Finset.univ : Finset (Fin 8)).biUnion (fun k => (sRect k).set) = Finset.univ := Rect.biUnion_part part8

/-- A sep over eight, written out. -/
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- A rectangle of one axis cut at `o`, `n` long, is part `r` of the cut into pieces of `n`. -/
theorem lUnit_eq (w : Fin 32) (o : Fin 1 → ℕ) (ho : o = ![512 * w.val]) (h : ∀ a, o a + S512.size a ≤ S16384.size a) :
    Rect.unit (s := S16384) o S512.size h = lRect w := by
  subst ho
  unfold lRect Rect.part Rect.block
  congr 1 <;> funext a
  · match a with
    | 0 => simp [Shape.partIx, Shape.partSize]; omega
  · match a with
    | 0 => simp [Shape.partSize]
theorem oUnit_eq (k : Fin 256) (o : Fin 2 → ℕ) (ho : o = ![64 * k.val, 0]) (h : ∀ a, o a + S64x128.size a ≤ S16384x128.size a) :
    Rect.unit (s := S16384x128) o S64x128.size h = oRect k := by
  subst ho
  unfold oRect Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]
theorem sUnit_eq (r : Fin 8) (o : Fin 1 → ℕ) (ho : o = ![64 * r.val]) (h : ∀ a, o a + S64.size a ≤ S512.size a) :
    Rect.unit (s := S512) o S64.size h = sRect r := by
  subst ho
  unfold sRect Rect.part Rect.block
  congr 1 <;> funext a
  · match a with
    | 0 => simp [Shape.partIx, Shape.partSize]; omega
  · match a with
    | 0 => simp [Shape.partSize]

/-! ## Shares of a table -/

/-- What is left of a share after `n` pieces are taken off it. -/
def rest (q : PosShare TreeShare) : ℕ → PosShare TreeShare
  | 0 => q
  | n + 1 => (rest q n).right
/-- Piece `n` of a share: half of what is left. -/
abbrev piece (q : PosShare TreeShare) (n : ℕ) : PosShare TreeShare := (rest q n).left

/-- A points-to at a share yields any number of read shares of it. -/
theorem pointsTo_pieces {ℓ : Loc nD τ sig} (I : Finset (Idx ℓ)) (f : Buf (Elt F) ℓ) (q : PosShare TreeShare) (n : ℕ) :
    (ℓ ↦[I]{q} f : sProp 𝕄) ⊢ iprop((bigSep (Finset.range n) fun i => ℓ ↦[I]{piece q i} f) ∗ ℓ ↦[I]{rest q n} f) := by
  induction n with
  | zero => rw [Finset.range_zero, bigSep_empty]; iintro H; isplitr; · iempintro
            iexact H
  | succ n ih =>
    rw [Finset.range_add_one, SparseCore.bigSep_insert' (by simp)]
    refine ih.trans ?_
    iintro ⟨H, Hr⟩
    ihave Hr' := (pointsTo_share (ℓ := ℓ) (I := I) (f := f) (PosShare.mem_left_op_right (rest q n))).1 $$ Hr
    icases Hr' with ⟨Hl, Hr⟩
    isplitr [Hr]; · isplitl [Hl] <;> iassumption
    iexact Hr

/-! ## A vector subcore's own counters and buffers -/

/-- A sep over eleven, written out. -/
theorem bigSep_eleven (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := by
  rw [show (Finset.univ : Finset (Fin 11)) = {0, 1, 2, 3, 4, 5, 6, 7, 8, 9, 10} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- A subcore's counters at zero: eleven named ones among them, and the others. -/
theorem ownSems0_eleven (thr : Thread nD τ) (f : Fin 11 → SemLoc sig) (hf : Function.Injective f)
    (hs : ∀ k, (f k).isScoped thr.2.kind = true) :
    (ownSems0 thr : sProp 𝕄) = iprop((bigSep Finset.univ fun k => semVal (thr, f k) 0)
      ∗ bigSep (ownCells thr \ Finset.univ.image fun k => ((thr, f k) : GSem nD τ sig)) fun g => semVal g 0) := by
  unfold SparseCore.Cfg.ownSems0
  have hsub : (Finset.univ.image fun k => ((thr, f k) : GSem nD τ sig)) ⊆ ownCells thr := by
    intro g hg
    obtain ⟨k, -, rfl⟩ := Finset.mem_image.mp hg
    exact mem_ownCells.mpr ⟨rfl, hs k⟩
  conv_lhs => rw [← Finset.union_sdiff_of_subset hsub]
  rw [SparseCore.bigSep_union' Finset.disjoint_sdiff,
    SparseCore.bigSep_image_of_injOn (fun a _ b _ h => hf (Prod.mk.inj h).2)]

/-- What a task ends with, as the launch theorem asks it. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Recording one more wait at the bottom index keeps what is known of the record. -/
theorem rec_insert {W W' : Waits sig (HIx 2)} {s : SemLoc sig} (h : ∀ p ∈ W', p ∈ W ∨ p.2 = none) :
    ∀ p ∈ insert (s, (none : HIx 2)) W', p ∈ W ∨ p.2 = none := fun p hp => by
  rcases Finset.mem_insert.mp hp with hp | hp
  · exact .inr (hp ▸ rfl)
  · exact h p hp

end Cert.Proof.Mov

end
-- ==== Proof.Bodies.lean ====
/-
  The three TensorCore kernel bodies on their staging buffers: whole loads, a value computed from what they read, one
  whole store of it. What is stored is the value the generated skeletons name.
-/
module

public import proofs.«01_k».proof.Proof.Base

@[expose] public section

noncomputable section

namespace Cert.Proof.Mov

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

theorem off3 : (![0, 0, 0] : Fin 3 → ℕ) = fun _ => 0 := funext fun a => by fin_cases a <;> rfl
theorem off2 : (![0, 0] : Fin 2 → ℕ) = fun _ => 0 := funext fun a => by fin_cases a <;> rfl
theorem off1 : (![0] : Fin 1 → ℕ) = fun _ => 0 := funext fun a => by fin_cases a; rfl

/-- A load of a whole staging buffer reads what it holds. -/
theorem load_own (c : Dev nD) {s : Shape} {e : EltTy} (M : Memref sig .tc .vmem s e) (hM : M.IsWhole) {off : Fin s.rank → ℕ} (ho : off = fun _ => 0)
    (inb : ∀ a, off a + s.size a ≤ s.size a) (hl : M.view.LoadsAt (Rect.unit off s.size inb).toLoadRect) {α : Type}
    (k : (s.Idx → Elt F e) → Prog (TpuEff nD τ sig (Elt F) Λ₀ .tc) α) (Q : α → sProp 𝕄) (X : s.Idx → Elt F e) :
    (owns (c.tc : Thread nD τ) M fullShare X : sProp 𝕄)
      ⊢ iprop((owns (c.tc : Thread nD τ) M fullShare X -∗ wp frame (wpE (defs₀ (F := F)) 𝒱₀ c.tc none) Set.univ (k X) Q)
        -∗ wp frame (wpE (defs₀ (F := F)) 𝒱₀ c.tc none) Set.univ (.op (.load M (Rect.unit off s.size inb).toLoadRect hl) k) Q) := by
  subst ho
  have hr : ∀ f, M.view.readAt (Elt F) (Rect.unit (fun _ => 0) s.size inb).toLoadRect f = M.view.read (Elt F) f :=
    fun f => funext fun x => congrArg (M.view.read (Elt F) f) (Rect.emb_whole_apply s x)
  unfold owns
  iintro ⟨%f, %hf, H⟩ Hk
  iapply (wp_load (defs := defs₀ (F := F)) 𝒱₀ (c.tc : Thread nD τ) none Set.univ (S := M.view.set)
    (by rw [hM.set_eq_univ]; exact Finset.subset_univ _)) $$ H
  iintro H
  rw [hr f]
  subst hf
  iapply Hk
  iexists f; isplitr; · ipureintro; rfl
  iexact H

/-- An unmasked store over a whole staging buffer leaves it holding the value stored. -/
theorem store_own (c : Dev nD) {s : Shape} {e : EltTy} (M : Memref sig .tc .vmem s e) (hM : M.IsWhole) {off : Fin s.rank → ℕ} (ho : off = fun _ => 0)
    (inb : ∀ a, off a + s.size a ≤ s.size a) (w : s.Idx → Elt F e)
    (hx : (M.access (Rect.unit off s.size inb)).Stores Finset.univ) (hm : (Finset.univ : Finset s.Idx) = Finset.univ ∨ ∀ a, (Rect.unit off s.size inb).stride a = 1) {α : Type}
    (k : PUnit → Prog (TpuEff nD τ sig (Elt F) Λ₀ .tc) α) (Q : α → sProp 𝕄) (X : s.Idx → Elt F e) :
    (owns (c.tc : Thread nD τ) M fullShare X : sProp 𝕄)
      ⊢ iprop((owns (c.tc : Thread nD τ) M fullShare w -∗ wp frame (wpE (defs₀ (F := F)) 𝒱₀ c.tc none) Set.univ (k ⟨⟩) Q)
        -∗ wp frame (wpE (defs₀ (F := F)) 𝒱₀ c.tc none) Set.univ (.op (.store M (Rect.unit off s.size inb) w Finset.univ hx hm) k) Q) := by
  subst ho
  have hr : ∀ f, M.view.read (Elt F) ((M.access (Rect.unit (fun _ => 0) s.size inb)).write (Elt F) f w Finset.univ) = w := fun f => funext fun x => by
    have h := View.read_slice_write_emb (v := M.view) (Val := Elt F) (Rect.unit (fun _ => 0) s.size inb) f w (M := Finset.univ) (Finset.mem_univ x)
    exact (congrArg (M.view.read (Elt F) ((M.access (Rect.unit (fun _ => 0) s.size inb)).write (Elt F) f w Finset.univ)) (Rect.emb_whole_apply s x)).symm.trans h
  unfold owns
  iintro ⟨%f, %hf, H⟩ Hk
  iapply (wp_store (defs := defs₀ (F := F)) 𝒱₀ (c.tc : Thread nD τ) none Set.univ (m := M) (r := Rect.unit (fun _ => 0) s.size inb) (w := w)
    (Mk := Finset.univ) (hx := hx) (hm := hm) (k := k) (S := M.view.set) (f := f)
    (by rw [hM.set_eq_univ]; exact Finset.subset_univ _)) $$ H
  iintro H
  iapply Hk
  iexists _; isplitr; · ipureintro; exact hr f
  iexact H

/-- The movie table's repack body: it loads its four blocks and stores the packed block of them. -/
theorem repack0_wp (c : Dev nD) (i : grid0.Coords)
    (M1 : Memref sig .tc .vmem S1x8x65536 .f32) (h1 : M1.IsWhole) (M2 : Memref sig .tc .vmem S1x8x65536 .f32) (h2 : M2.IsWhole)
    (M3 : Memref sig .tc .vmem S1x8x65536 .f32) (h3 : M3.IsWhole) (M4 : Memref sig .tc .vmem S1x8x65536 .f32) (h4 : M4.IsWhole)
    (M5 : Memref sig .tc .vmem S16384x128 .f32) (h5 : M5.IsWhole)
    (X1 X2 X3 X4 : Vec F S1x8x65536 .f32) (X5 : Vec F S16384x128 .f32) (Q : PUnit → sProp 𝕄) :
    iprop((owns (c.tc : Thread nD τ) M1 fullShare X1 ∗ owns (c.tc : Thread nD τ) M2 fullShare X2 ∗ owns (c.tc : Thread nD τ) M3 fullShare X3
        ∗ owns (c.tc : Thread nD τ) M4 fullShare X4 ∗ owns (c.tc : Thread nD τ) M5 fullShare X5)
      ∗ ((owns (c.tc : Thread nD τ) M1 fullShare X1 ∗ owns (c.tc : Thread nD τ) M2 fullShare X2 ∗ owns (c.tc : Thread nD τ) M3 fullShare X3
        ∗ owns (c.tc : Thread nD τ) M4 fullShare X4 ∗ owns (c.tc : Thread nD τ) M5 fullShare (k0_pay1 X1 X2 X3 X4)) -∗ Q ⟨⟩))
    ⊢ wp frame (wpE (defs₀ (F := F)) 𝒱₀ c.tc none) Set.univ (cc0__repack_body i M1 h1 M2 h2 M3 h3 M4 h4 M5 h5) Q := by
  simp only [cc0__repack_body_eq_skeleton]
  unfold cc0__repack_body_skel
  simp only [Prog.lift, Prog.bind_op, Prog.bind_ret]
  iintro ⟨⟨H1, H2, H3, H4, H5⟩, Hk⟩
  iapply (load_own c M1 h1 off3) $$ H1; iintro H1
  iapply (load_own c M2 h2 off3) $$ H2; iintro H2
  iapply (load_own c M3 h3 off3) $$ H3; iintro H3
  iapply (load_own c M4 h4 off3) $$ H4; iintro H4
  iapply (load_own c M5 h5 off2) $$ H5; iintro H5
  iapply (store_own c M5 h5 off2) $$ H5; iintro H5
  sl_step
  iapply Hk
  isplitl [H1]; · iexact H1
  isplitl [H2]; · iexact H2
  isplitl [H3]; · iexact H3
  isplitl [H4]; · iexact H4
  iexact H5

/-- The user table's repack body, the same program: it loads its four blocks and stores the packed block of them. -/
theorem repack1_wp (c : Dev nD) (i : grid1.Coords)
    (M1 : Memref sig .tc .vmem S1x8x65536 .f32) (h1 : M1.IsWhole) (M2 : Memref sig .tc .vmem S1x8x65536 .f32) (h2 : M2.IsWhole)
    (M3 : Memref sig .tc .vmem S1x8x65536 .f32) (h3 : M3.IsWhole) (M4 : Memref sig .tc .vmem S1x8x65536 .f32) (h4 : M4.IsWhole)
    (M5 : Memref sig .tc .vmem S16384x128 .f32) (h5 : M5.IsWhole)
    (X1 X2 X3 X4 : Vec F S1x8x65536 .f32) (X5 : Vec F S16384x128 .f32) (Q : PUnit → sProp 𝕄) :
    iprop((owns (c.tc : Thread nD τ) M1 fullShare X1 ∗ owns (c.tc : Thread nD τ) M2 fullShare X2 ∗ owns (c.tc : Thread nD τ) M3 fullShare X3
        ∗ owns (c.tc : Thread nD τ) M4 fullShare X4 ∗ owns (c.tc : Thread nD τ) M5 fullShare X5)
      ∗ ((owns (c.tc : Thread nD τ) M1 fullShare X1 ∗ owns (c.tc : Thread nD τ) M2 fullShare X2 ∗ owns (c.tc : Thread nD τ) M3 fullShare X3
        ∗ owns (c.tc : Thread nD τ) M4 fullShare X4 ∗ owns (c.tc : Thread nD τ) M5 fullShare (k0_pay1 X1 X2 X3 X4)) -∗ Q ⟨⟩))
    ⊢ wp frame (wpE (defs₀ (F := F)) 𝒱₀ c.tc none) Set.univ (cc1__repack_body i M1 h1 M2 h2 M3 h3 M4 h4 M5 h5) Q :=
  repack0_wp c (grid0.coords ⟨0, by decide⟩) M1 h1 M2 h2 M3 h3 M4 h4 M5 h5 X1 X2 X3 X4 X5 Q

/-- What the two-layer body stores, from the blocks it loads: the packed user and movie rows, the two selectors, the two
    halves of the first matrix, its bias, the second matrix and its bias, the last row and its bias. -/
def mlpVal (x0 x1 : Vec F S1024x128 .f32) (x2 x3 : Vec F S1024 .i32) (x4 x5 : Vec F S128x32 .f32) (x6 : Vec F S128 .f32)
    (x7 : Vec F S64x128 .f32) (x8 : Vec F S64 .f32) (x9 : Vec F S1x64 .f32) (x10 : Vec F S1 .f32) : FVec F S1024 .f32 :=
  k4_pay1 (k4_pay11 (k4_pay2 x0) (k4_pay3 x1) (k4_pay4 x2) (k4_pay5 x3) (k4_pay6 x0 x2) (k4_pay7 x1 x3) (k4_pay8 x3) (k4_pay9 x0) (k4_pay10 x2) x4 x5 x6 x7) x8 x9 x10

set_option maxHeartbeats 1000000 in
/-- The two-layer body: eleven whole loads and the store of `mlpVal` of them. -/
theorem mlp_wp (c : Dev nD) (i : grid4.Coords)
    (M0 : Memref sig .tc .vmem S1024x128 .f32) (h0 : M0.IsWhole) (M1 : Memref sig .tc .vmem S1024x128 .f32) (h1 : M1.IsWhole)
    (M2 : Memref sig .tc .vmem S1024 .i32) (h2 : M2.IsWhole) (M3 : Memref sig .tc .vmem S1024 .i32) (h3 : M3.IsWhole)
    (M4 : Memref sig .tc .vmem S128x32 .f32) (h4 : M4.IsWhole) (M5 : Memref sig .tc .vmem S128x32 .f32) (h5 : M5.IsWhole)
    (M6 : Memref sig .tc .vmem S128 .f32) (h6 : M6.IsWhole) (M7 : Memref sig .tc .vmem S64x128 .f32) (h7 : M7.IsWhole)
    (M8 : Memref sig .tc .vmem S64 .f32) (h8 : M8.IsWhole) (M9 : Memref sig .tc .vmem S1x64 .f32) (h9 : M9.IsWhole)
    (M10 : Memref sig .tc .vmem S1 .f32) (h10 : M10.IsWhole) (M11 : Memref sig .tc .vmem S1024 .f32) (h11 : M11.IsWhole)
    (x0 x1 : Vec F S1024x128 .f32) (x2 x3 : Vec F S1024 .i32) (x4 x5 : Vec F S128x32 .f32) (x6 : Vec F S128 .f32)
    (x7 : Vec F S64x128 .f32) (x8 : Vec F S64 .f32) (x9 : Vec F S1x64 .f32) (x10 : Vec F S1 .f32) (x11 : Vec F S1024 .f32) (Q : PUnit → sProp 𝕄) :
    iprop((owns (c.tc : Thread nD τ) M0 fullShare x0 ∗ owns (c.tc : Thread nD τ) M1 fullShare x1 ∗ owns (c.tc : Thread nD τ) M2 fullShare x2
        ∗ owns (c.tc : Thread nD τ) M3 fullShare x3 ∗ owns (c.tc : Thread nD τ) M4 fullShare x4 ∗ owns (c.tc : Thread nD τ) M5 fullShare x5
        ∗ owns (c.tc : Thread nD τ) M6 fullShare x6 ∗ owns (c.tc : Thread nD τ) M7 fullShare x7 ∗ owns (c.tc : Thread nD τ) M8 fullShare x8
        ∗ owns (c.tc : Thread nD τ) M9 fullShare x9 ∗ owns (c.tc : Thread nD τ) M10 fullShare x10 ∗ owns (c.tc : Thread nD τ) M11 fullShare x11)
      ∗ ((owns (c.tc : Thread nD τ) M0 fullShare x0 ∗ owns (c.tc : Thread nD τ) M1 fullShare x1 ∗ owns (c.tc : Thread nD τ) M2 fullShare x2
        ∗ owns (c.tc : Thread nD τ) M3 fullShare x3 ∗ owns (c.tc : Thread nD τ) M4 fullShare x4 ∗ owns (c.tc : Thread nD τ) M5 fullShare x5
        ∗ owns (c.tc : Thread nD τ) M6 fullShare x6 ∗ owns (c.tc : Thread nD τ) M7 fullShare x7 ∗ owns (c.tc : Thread nD τ) M8 fullShare x8
        ∗ owns (c.tc : Thread nD τ) M9 fullShare x9 ∗ owns (c.tc : Thread nD τ) M10 fullShare x10
        ∗ owns (c.tc : Thread nD τ) M11 fullShare (mlpVal x0 x1 x2 x3 x4 x5 x6 x7 x8 x9 x10)) -∗ Q ⟨⟩))
    ⊢ wp frame (wpE (defs₀ (F := F)) 𝒱₀ c.tc none) Set.univ (cc4__mlp_body i M0 h0 M1 h1 M2 h2 M3 h3 M4 h4 M5 h5 M6 h6 M7 h7 M8 h8 M9 h9 M10 h10 M11 h11) Q := by
  simp only [cc4__mlp_body_eq_skeleton]
  unfold cc4__mlp_body_skel
  simp only [k4_part1_eq_skeleton, k4_part2_eq_skeleton]
  unfold k4_part1_skel k4_part2_skel
  simp only [Prog.lift, Prog.bind_op, Prog.bind_ret]
  iintro ⟨⟨H0, H1, H2, H3, H4, H5, H6, H7, H8, H9, H10, H11⟩, Hk⟩
  iapply (load_own c M0 h0 off2) $$ H0; iintro H0
  iapply (load_own c M1 h1 off2) $$ H1; iintro H1
  iapply (load_own c M2 h2 off1) $$ H2; iintro H2
  iapply (load_own c M3 h3 off1) $$ H3; iintro H3
  iapply (load_own c M4 h4 off2) $$ H4; iintro H4
  iapply (load_own c M5 h5 off2) $$ H5; iintro H5
  iapply (load_own c M6 h6 off1) $$ H6; iintro H6
  iapply (load_own c M7 h7 off2) $$ H7; iintro H7
  iapply (load_own c M8 h8 off1) $$ H8; iintro H8
  iapply (load_own c M9 h9 off2) $$ H9; iintro H9
  iapply (load_own c M10 h10 off1) $$ H10; iintro H10
  iapply (load_own c M11 h11 off1) $$ H11; iintro H11
  iapply (store_own c M11 h11 off1) $$ H11; iintro H11
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.Proof.Mov

end
-- ==== Proof.Region.lean ====
/-
  The three TensorCore regions: each window's blocks, what the body leaves in its output block, and the region as one
  step of the main thread. The input windows of a repack share one array, each at a piece of its full share.
-/
module

public import proofs.«01_k».proof.Proof.Bodies
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionArrays

@[expose] public section

noncomputable section

namespace Cert.Proof.Mov

open Cert.KernelIdeal Cert.KernelIdeal.Gen

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig (HIx 2) (Elt F) ℕ UU ℕ

/-- No pipeline has prefetched tables. -/
abbrev adm : (p : Fin 3) → (pcfgs (F := F) p).Adm := fun p => (cfgs p).toPCfg_adm

/-- A window of a pipeline, its buffer holding `d`, once the fetch at point `t` from an array holding `A` has landed. -/
abbrev got (cfg : Cfg sig Λ₀) (w : Fin cfg.W) (t : Fin cfg.N) (c : Dev nD) (A : Buf (Elt F) ((cfg.win w).arr.view.loc (c.tc : Thread nD τ)))
    (d : (cfg.win w).block.Idx → Elt F (cfg.win w).elt) : (cfg.win w).block.Idx → Elt F (cfg.win w).elt :=
  (cfg.win w).fill (cfg.grid.coords t) d (((cfg.win w).blk t).view.read (Elt F) A)

/-- The first repack's output block at point `t`, from the movie table laid out in `A`. -/
def Out0 (c : Dev nD) (A : Buf (Elt F) ((c.tc : Thread nD τ).loc main_v1)) (t : Fin cfg0.N) (X : S16384x128.Idx → Elt F .f32) : Prop :=
  ∃ d0 d1 d2 d3, X = k0_pay1 (got cfg0 0 t c A d0) (got cfg0 1 t c A d1) (got cfg0 2 t c A d2) (got cfg0 3 t c A d3)

/-- The second repack's output block at point `t`, from the user table laid out in `A`. -/
def Out1 (c : Dev nD) (A : Buf (Elt F) ((c.tc : Thread nD τ).loc main_v5)) (t : Fin cfg1.N) (X : S16384x128.Idx → Elt F .f32) : Prop :=
  ∃ d0 d1 d2 d3, X = k0_pay1 (got cfg1 0 t c A d0) (got cfg1 1 t c A d1) (got cfg1 2 t c A d2) (got cfg1 3 t c A d3)

/-- The two-layer region's output block at point `t`, from the arrays a valuation names. -/
def Out2 (c : Dev nD) (A : (w : Fin cfg4.W) → Buf (Elt F) ((cfg4.win w).arr.view.loc (c.tc : Thread nD τ))) (t : Fin cfg4.N) (X : S1024.Idx → Elt F .f32) : Prop :=
  ∃ d0 d1 d2 d3 d4 d5 d6 d7 d8 d9 d10, X = mlpVal (got cfg4 0 t c (A 0) d0) (got cfg4 1 t c (A 1) d1) (got cfg4 2 t c (A 2) d2) (got cfg4 3 t c (A 3) d3)
    (got cfg4 4 t4_0 c (A 4) d4) (got cfg4 5 t4_0 c (A 5) d5) (got cfg4 6 t4_0 c (A 6) d6) (got cfg4 7 t4_0 c (A 7) d7) (got cfg4 8 t4_0 c (A 8) d8)
    (got cfg4 9 t4_0 c (A 9) d9) (got cfg4 10 t4_0 c (A 10) d10)

/-- The arrays of a pipeline's windows as a valuation has them. -/
abbrev arrOf (cfg : Cfg sig Λ₀) (V : Valuation τ sig (Elt F)) (c : Dev nD) :
    (w : Fin cfg.W) → Buf (Elt F) ((cfg.win w).arr.view.loc (c.tc : Thread nD τ)) := fun w => V (Proc.devRef .tc (arrRef cfg.spec w))

/-- The pairs a TensorCore's waits may have recorded before the SparseCore call `n`. -/
abbrev below (c : Dev nD) (n : ℕ) : Set (SemLoc sig × HIx 2) := {p | (K (F := F)).lev (T c, p.1) p.2 ≤ 8 * n}

variable (V : Valuation τ sig (Elt F)) (n : ℕ)

/-- The first repack's proof data. -/
def rd0 (c : Dev nD) : RDat τ (Elt F) (HIx 2) ℕ UU ℕ cfg0 c where
  A := arrOf cfg0 V c
  after := fun
    | 0 => fun _ Y X => X = Y
    | 1 => fun _ Y X => X = Y
    | 2 => fun _ Y X => X = Y
    | 3 => fun _ Y X => X = Y
    | 4 => fun t _ X => Out0 c (arrOf cfg0 V c 0) t X
    | ⟨_ + 5, h⟩ => absurd h (Nat.not_lt.2 (Nat.le_add_left _ _))
  Φ := fun _ => scopedRest cfg0.spec c
  q := fun w => piece fullShare w.val
  owed := fun _ => (K (F := F)).Otc c n
  recorded := fun _ => below (F := F) c n

/-- The second repack's proof data. -/
def rd1 (c : Dev nD) : RDat τ (Elt F) (HIx 2) ℕ UU ℕ cfg1 c where
  A := arrOf cfg1 V c
  after := fun
    | 0 => fun _ Y X => X = Y
    | 1 => fun _ Y X => X = Y
    | 2 => fun _ Y X => X = Y
    | 3 => fun _ Y X => X = Y
    | 4 => fun t _ X => Out1 c (arrOf cfg1 V c 0) t X
    | ⟨_ + 5, h⟩ => absurd h (Nat.not_lt.2 (Nat.le_add_left _ _))
  Φ := fun _ => scopedRest cfg1.spec c
  q := fun w => piece fullShare w.val
  owed := fun _ => (K (F := F)).Otc c n
  recorded := fun _ => below (F := F) c n

/-- The two-layer region's proof data. -/
def rd2 (c : Dev nD) : RDat τ (Elt F) (HIx 2) ℕ UU ℕ cfg4 c where
  A := arrOf cfg4 V c
  after := fun
    | 0 => fun _ Y X => X = Y
    | 1 => fun _ Y X => X = Y
    | 2 => fun _ Y X => X = Y
    | 3 => fun _ Y X => X = Y
    | 4 => fun _ Y X => X = Y
    | 5 => fun _ Y X => X = Y
    | 6 => fun _ Y X => X = Y
    | 7 => fun _ Y X => X = Y
    | 8 => fun _ Y X => X = Y
    | 9 => fun _ Y X => X = Y
    | 10 => fun _ Y X => X = Y
    | 11 => fun t _ X => Out2 c (arrOf cfg4 V c) t X
    | ⟨_ + 12, h⟩ => absurd h (Nat.not_lt.2 (Nat.le_add_left _ _))
  Φ := fun _ => scopedRest cfg4.spec c
  q := fun _ => fullShare
  owed := fun _ => (K (F := F)).Otc c n
  recorded := fun _ => below (F := F) c n

/-- The proof data of the three regions. -/
def rdats : (p : Fin 3) → (c : Dev nD) → RDat τ (Elt F) (HIx 2) ℕ UU ℕ (pin (pcfgs (F := F)) adm p) c
  | 0 => rd0 V n
  | 1 => rd1 V n
  | 2 => rd2 V n

/-- A window whose block never changes holds, at every point, what its first fetch left. -/
theorem finds_const {cfg : Cfg sig Λ₀} {c : Dev nD} (rd : RDat τ (Elt F) (HIx 2) ℕ UU ℕ cfg c) (w : Fin cfg.W) (t₀ : Fin cfg.N) (h₀ : t₀.val = 0)
    (hN : cfg.N ≤ 16) (hf : ∀ t : Fin cfg.N, (cfg.win w).fetch t = true ↔ t.val % 16 = 0) (hin : (cfg.win w).isOut = false)
    (ha : ∀ t Y X, rd.after w t Y X → X = Y) :
    ∀ (k : ℕ) (t : Fin cfg.N), t.val = k → ∀ X, rd.Finds w t X → ∃ d, X = rd.fetched w t₀ d := by
  intro k
  induction k with
  | zero =>
    intro t ht X hX
    obtain rfl : t = t₀ := Fin.ext (ht.trans h₀.symm)
    exact (rd.finds_of_fetch ((hf t).mpr (by rw [ht])) X).mp hX
  | succ k ih =>
    intro t ht X hX
    have hlt := t.isLt
    have hn : (cfg.win w).fetch t = false := Bool.eq_false_iff.mpr fun h => by have := (hf t).mp h; omega
    rcases (rd.finds_of_pos hn (by omega) X).mp hX with h | ⟨Y, hY, hX⟩
    · simp [Window.flush, hin] at h
    · obtain rfl := ha _ _ _ hX
      exact ih _ (by show t.val - 1 = k; omega) _ hY

set_option maxRecDepth 16384 in
/-- The first repack's body meets its obligation at every point. -/
theorem hbody0 (c : Dev nD) : (rd0 V n c).BodyObligation (defs₀ (F := F)) 𝒱₀ none Set.univ := by
  intro t Y hY
  obtain ⟨d0, h0⟩ := ((rd0 V n c).finds_of_fetch (fetch0_0 t) _).mp (hY 0)
  obtain ⟨d1, h1⟩ := ((rd0 V n c).finds_of_fetch (fetch0_1 t) _).mp (hY 1)
  obtain ⟨d2, h2⟩ := ((rd0 V n c).finds_of_fetch (fetch0_2 t) _).mp (hY 2)
  obtain ⟨d3, h3⟩ := ((rd0 V n c).finds_of_fetch (fetch0_3 t) _).mp (hY 3)
  have hO : Out0 c (arrOf cfg0 V c 0) t (k0_pay1 (Y 0) (Y 1) (Y 2) (Y 3)) := ⟨d0, d1, d2, d3, by rw [h0, h1, h2, h3]; rfl⟩
  change _ ⊢ wp frame _ _ (bodyAt0 t) _
  rw [bigSep_W0, bigSep_W0, show (rd0 V n c).Φ t.succ = (rd0 V n c).Φ t.castSucc from rfl,
    show (rd0 V n c).owesAt none t.succ = (rd0 V n c).owesAt none t.castSucc from rfl]
  iintro ⟨HΦ, HO, H0, H1, H2, H3, H4⟩
  iapply (repack0_wp c (grid0.coords t) _ _ _ _ _ _ _ _ _ _ (Y 0) (Y 1) (Y 2) (Y 3) (Y 4))
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [HO]; · iexact HO
  isplitl [H0]; · iexists (Y 0); isplitr; · ipureintro; exact rfl
                  iexact H0
  isplitl [H1]; · iexists (Y 1); isplitr; · ipureintro; exact rfl
                  iexact H1
  isplitl [H2]; · iexists (Y 2); isplitr; · ipureintro; exact rfl
                  iexact H2
  isplitl [H3]; · iexists (Y 3); isplitr; · ipureintro; exact rfl
                  iexact H3
  iexists _; isplitr; · ipureintro; exact hO
  iexact H4

set_option maxRecDepth 16384 in
/-- The second repack's body meets its obligation at every point. -/
theorem hbody1 (c : Dev nD) : (rd1 V n c).BodyObligation (defs₀ (F := F)) 𝒱₀ none Set.univ := by
  intro t Y hY
  obtain ⟨d0, h0⟩ := ((rd1 V n c).finds_of_fetch (fetch1_0 t) _).mp (hY 0)
  obtain ⟨d1, h1⟩ := ((rd1 V n c).finds_of_fetch (fetch1_1 t) _).mp (hY 1)
  obtain ⟨d2, h2⟩ := ((rd1 V n c).finds_of_fetch (fetch1_2 t) _).mp (hY 2)
  obtain ⟨d3, h3⟩ := ((rd1 V n c).finds_of_fetch (fetch1_3 t) _).mp (hY 3)
  have hO : Out1 c (arrOf cfg1 V c 0) t (k0_pay1 (Y 0) (Y 1) (Y 2) (Y 3)) := ⟨d0, d1, d2, d3, by rw [h0, h1, h2, h3]; rfl⟩
  change _ ⊢ wp frame _ _ (bodyAt1 t) _
  rw [bigSep_W1, bigSep_W1, show (rd1 V n c).Φ t.succ = (rd1 V n c).Φ t.castSucc from rfl,
    show (rd1 V n c).owesAt none t.succ = (rd1 V n c).owesAt none t.castSucc from rfl]
  iintro ⟨HΦ, HO, H0, H1, H2, H3, H4⟩
  iapply (repack1_wp c (grid1.coords t) _ _ _ _ _ _ _ _ _ _ (Y 0) (Y 1) (Y 2) (Y 3) (Y 4))
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [HO]; · iexact HO
  isplitl [H0]; · iexists (Y 0); isplitr; · ipureintro; exact rfl
                  iexact H0
  isplitl [H1]; · iexists (Y 1); isplitr; · ipureintro; exact rfl
                  iexact H1
  isplitl [H2]; · iexists (Y 2); isplitr; · ipureintro; exact rfl
                  iexact H2
  isplitl [H3]; · iexists (Y 3); isplitr; · ipureintro; exact rfl
                  iexact H3
  iexists _; isplitr; · ipureintro; exact hO
  iexact H4

/-- A buffer handed back as it was found. -/
theorem kept (c : Dev nD) {s : Shape} {e : EltTy} (M : Memref sig .tc .vmem s e) (Y : s.Idx → Elt F e) (R : (s.Idx → Elt F e) → Prop) (h : R Y) :
    (owns (c.tc : Thread nD τ) M fullShare Y : sProp 𝕄) ⊢ iprop(∃ X, ⌜R X⌝ ∗ owns (c.tc : Thread nD τ) M fullShare X) := by
  iintro H; iexists Y; isplitr; · ipureintro; exact h
  iexact H

set_option maxRecDepth 16384 in
/-- The two-layer body meets its obligation at every point. -/
theorem hbody2 (c : Dev nD) : (rd2 V n c).BodyObligation (defs₀ (F := F)) 𝒱₀ none Set.univ := by
  intro t Y hY
  have hN : cfg4.N ≤ 16 := le_of_eq N_4
  obtain ⟨d0, h0⟩ := ((rd2 V n c).finds_of_fetch (fetch4_0 t) _).mp (hY 0)
  obtain ⟨d1, h1⟩ := ((rd2 V n c).finds_of_fetch (fetch4_1 t) _).mp (hY 1)
  obtain ⟨d2, h2⟩ := ((rd2 V n c).finds_of_fetch (fetch4_2 t) _).mp (hY 2)
  obtain ⟨d3, h3⟩ := ((rd2 V n c).finds_of_fetch (fetch4_3 t) _).mp (hY 3)
  obtain ⟨d4, h4⟩ := finds_const (rd2 V n c) 4 t4_0 rfl hN fetch4_4 rfl (fun _ _ _ h => h) _ t rfl _ (hY 4)
  obtain ⟨d5, h5⟩ := finds_const (rd2 V n c) 5 t4_0 rfl hN fetch4_5 rfl (fun _ _ _ h => h) _ t rfl _ (hY 5)
  obtain ⟨d6, h6⟩ := finds_const (rd2 V n c) 6 t4_0 rfl hN fetch4_6 rfl (fun _ _ _ h => h) _ t rfl _ (hY 6)
  obtain ⟨d7, h7⟩ := finds_const (rd2 V n c) 7 t4_0 rfl hN fetch4_7 rfl (fun _ _ _ h => h) _ t rfl _ (hY 7)
  obtain ⟨d8, h8⟩ := finds_const (rd2 V n c) 8 t4_0 rfl hN fetch4_8 rfl (fun _ _ _ h => h) _ t rfl _ (hY 8)
  obtain ⟨d9, h9⟩ := finds_const (rd2 V n c) 9 t4_0 rfl hN fetch4_9 rfl (fun _ _ _ h => h) _ t rfl _ (hY 9)
  obtain ⟨d10, h10⟩ := finds_const (rd2 V n c) 10 t4_0 rfl hN fetch4_10 rfl (fun _ _ _ h => h) _ t rfl _ (hY 10)
  have hO : Out2 c (arrOf cfg4 V c) t (mlpVal (Y 0) (Y 1) (Y 2) (Y 3) (Y 4) (Y 5) (Y 6) (Y 7) (Y 8) (Y 9) (Y 10)) :=
    ⟨d0, d1, d2, d3, d4, d5, d6, d7, d8, d9, d10, by rw [h0, h1, h2, h3, h4, h5, h6, h7, h8, h9, h10]; rfl⟩
  change _ ⊢ wp frame _ _ (bodyAt4 t) _
  rw [bigSep_W4, bigSep_W4, show (rd2 V n c).Φ t.succ = (rd2 V n c).Φ t.castSucc from rfl,
    show (rd2 V n c).owesAt none t.succ = (rd2 V n c).owesAt none t.castSucc from rfl]
  iintro ⟨HΦ, HO, H0, H1, H2, H3, H4, H5, H6, H7, H8, H9, H10, H11⟩
  iapply (mlp_wp c (grid4.coords t) _ _ _ _ _ _ _ _ _ _ _ _ _ _ _ _ _ _ _ _ _ _ _ _ (Y 0) (Y 1) (Y 2) (Y 3) (Y 4) (Y 5) (Y 6) (Y 7) (Y 8) (Y 9) (Y 10) (Y 11))
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro ⟨H0, H1, H2, H3, H4, H5, H6, H7, H8, H9, H10, H11⟩
  isplitl [HΦ]; · iexact HΦ
  isplitl [HO]; · iexact HO
  isplitl [H0]; · iapply (kept c _ (Y 0) ((rd2 V n c).after 0 t (Y 0)) (rfl : Y 0 = Y 0)); iexact H0
  isplitl [H1]; · iapply (kept c _ (Y 1) ((rd2 V n c).after 1 t (Y 1)) (rfl : Y 1 = Y 1)); iexact H1
  isplitl [H2]; · iapply (kept c _ (Y 2) ((rd2 V n c).after 2 t (Y 2)) (rfl : Y 2 = Y 2)); iexact H2
  isplitl [H3]; · iapply (kept c _ (Y 3) ((rd2 V n c).after 3 t (Y 3)) (rfl : Y 3 = Y 3)); iexact H3
  isplitl [H4]; · iapply (kept c _ (Y 4) ((rd2 V n c).after 4 t (Y 4)) (rfl : Y 4 = Y 4)); iexact H4
  isplitl [H5]; · iapply (kept c _ (Y 5) ((rd2 V n c).after 5 t (Y 5)) (rfl : Y 5 = Y 5)); iexact H5
  isplitl [H6]; · iapply (kept c _ (Y 6) ((rd2 V n c).after 6 t (Y 6)) (rfl : Y 6 = Y 6)); iexact H6
  isplitl [H7]; · iapply (kept c _ (Y 7) ((rd2 V n c).after 7 t (Y 7)) (rfl : Y 7 = Y 7)); iexact H7
  isplitl [H8]; · iapply (kept c _ (Y 8) ((rd2 V n c).after 8 t (Y 8)) (rfl : Y 8 = Y 8)); iexact H8
  isplitl [H9]; · iapply (kept c _ (Y 9) ((rd2 V n c).after 9 t (Y 9)) (rfl : Y 9 = Y 9)); iexact H9
  isplitl [H10]; · iapply (kept c _ (Y 10) ((rd2 V n c).after 10 t (Y 10)) (rfl : Y 10 = Y 10)); iexact H10
  iapply (kept c _ _ ((rd2 V n c).after 11 t (Y 11)) hO); iexact H11

/-! ## A region as one step of the main thread -/

/-- The pipelines' rounds: the left half of the right component. -/
def EP : Emb UP (MT nD τ sig (HIx 2) (Elt F) ℕ UU ℕ) := (Emb.inl : Emb UP (UP × Counters)).trans embR

instance EP_landsIn : (EP (F := F)).LandsIn (upEmb : UEmb _ (MT nD τ sig (HIx 2) (Elt F) ℕ UU ℕ)) := by unfold EP; infer_instance

/-- What the TensorCore owes before the SparseCore call `n`, its recorded waits bounded. -/
def owed (c : Dev nD) (n : ℕ) : sProp 𝕄 :=
  iprop(∃ W, ⌜(K (F := F)).WBelow (N := 2) (T c) W (8 * n)⌝ ∗ owes (T c) ((K (F := F)).Otc c n) W)

/-- Nothing the TensorCore owes is at the index of the pipelines' own waits. -/
theorem Otc_none (c : Dev nD) (n : ℕ) (g : GSem nD τ sig) : (K (F := F)).Otc (N := 2) c n g none = 0 := by
  by_contra h
  have := (K (F := F)).lev_of_Otc_pos (Nat.pos_of_ne_zero h)
  have h0 : (K (F := F)).lev g (none : HIx 2) = 0 := rfl
  omega

variable (rds : (p : Fin 3) → (c : Dev nD) → RDat τ (Elt F) (HIx 2) ℕ UU ℕ (pin (pcfgs (F := F)) adm p) c) in
/-- A region whose proof data owe what the TensorCore owes before call `n`: entered with its arrays at the entry contents,
    left with them at what the write-backs made of them. -/
def seg (p : Fin 3) (kit : LaunchFacts₀ (nD := nD) (τ := τ) cfgs p)
    (hbody : ∀ c, (rds p c).BodyObligation (defs₀ (F := F)) 𝒱₀ none Set.univ)
    (howed : ∀ c t, (rds p c).owed t = (K (F := F)).Otc c n) (hrec : ∀ c t, (rds p c).recorded t = below (F := F) c n)
    (hΦ : ∀ c t, (rds p c).Φ t = scopedRest (cfgs p).spec c) :
    RDat.RegionSeg (pcfgs (F := F)) adm rds none defs₀ 𝒱₀ (K (F := F)).L (K (F := F)).lev p where
  win := kit.win
  block_pos := kit.block_pos
  stage_whole := kit.stage_whole
  K := PEmpty
  osem k := k.elim
  ho := OwnSemFacts.none _
  hbody := hbody
  hwaits c := RDat.cellsWaits_intro _ rds none p c fun w s t => by
    rw [howed]; exact (K (F := F)).mayWait_none _ (Otc_none c n)
  pre c := iprop((rds p c).arrays (rds p c).A ∗ owed (F := F) c n)
  post c := iprop((rds p c).arraysAt (pin (pcfgs (F := F)) adm p).N ∗ owed (F := F) c n)
  X _ := iprop(emp)
  Y _ := iprop(emp)
  Z _ := iprop(emp)
  hentry c := by
    rw [ownSems0_none, prefHeld_of_none _ rfl]
    unfold owed
    iintro ⟨⟨Ha, %W, %hW, HO⟩, -, -⟩
    imodintro
    isplitl [Ha]; · iexact Ha
    isplitr; · iempintro
    isplitl [HO]
    · unfold RDat.owesAt owesWithin RDat.bound
      rw [howed c 0, hrec c 0]
      iexists W; isplitr; · ipureintro; exact fun p hp => Or.inl (hW p hp)
      iexact HO
    isplitr <;> iempintro
  hin c := by
    rw [hΦ]
    iintro ⟨-, -, H⟩; iexact H
  hout c := by
    rw [hΦ, ownSems0_none]
    iintro H
    isplitr; · iempintro
    isplitr; · iempintro
    iexact H
  hexit c := by
    unfold owed RDat.owesAt owesWithin RDat.bound
    rw [howed, hrec]
    iintro ⟨Ha, ⟨%W, %hW, HO⟩, -, -⟩
    imodintro
    isplitl [Ha]; · iexact Ha
    iexists W; isplitr
    · ipureintro
      intro p hp
      rcases hW hp with h | ⟨w, s, h⟩
      · exact h
      · rw [h]; exact Nat.zero_le _
    iexact HO

/-- The three regions. -/
def seg0 := seg n (rdats V n) 0 launch₀0 (hbody0 V n) (fun _ _ => rfl) (fun _ _ => rfl) (fun _ _ => rfl)
def seg1 := seg n (rdats V n) 1 launch₀1 (hbody1 V n) (fun _ _ => rfl) (fun _ _ => rfl) (fun _ _ => rfl)
def seg2 := seg n (rdats V n) 2 launch4.to₀ (hbody2 V n) (fun _ _ => rfl) (fun _ _ => rfl) (fun _ _ => rfl)

/-- The rounds of pipeline `p`'s cells on core `c`, as the launch deals them. -/
abbrev dealt (p : Fin 3) (c : Dev nD) : sProp 𝕄 :=
  iprop(Pipeline.cellsGhost (pin (pcfgs (F := F)) adm) (EP (F := F)) p c ∗ Pipeline.toksInit (pin (pcfgs (F := F)) adm) (EP (F := F)) p c)

/-- A region's call in the main program runs the region. -/
theorem region_wp {rds : (p : Fin 3) → (c : Dev nD) → RDat τ (Elt F) (HIx 2) ℕ UU ℕ (pin (pcfgs (F := F)) adm p) c} {p : Fin 3}
    (R : RDat.RegionSeg (pcfgs (F := F)) adm rds none defs₀ 𝒱₀ (K (F := F)).L (K (F := F)).lev p) (c : Dev nD) (Q : PUnit → sProp 𝕄) :
    iprop((iprop(boundary (c.tc : Thread nD τ) ∗ R.post c) -∗ Q ⟨⟩)
        ∗ boundary (c.tc : Thread nD τ) ∗ R.pre c ∗ levAts (K (F := F)).L (K (F := F)).lev ∗ dealt (F := F) p c)
      ⊢ wp frame (wpE ((K (F := F)).defs D) 𝒱 (T c) none) Set.univ (Prog.lift (.customCall (SparseCore.inner (Pipeline.entry p)) ())) Q := by
  iintro ⟨Hk, Hb, Hp, Hl, Hg, Ht⟩
  iapply ((K (F := F)).wp_liftProg D 𝒱 (T c) Set.univ none (Prog.lift (.customCall (Pipeline.entry p) ())) Q)
  iapply (RDat.RegionSeg.wp (pcfgs (F := F)) adm rds none cellOf_inj (EP (F := F)) defs₀ 𝒱₀ (K (F := F)).L (K (F := F)).lev R c none
    (fun _ h => absurd h (by simp)) (fun x => .ret x) Q)
  isplitl [Hk]
  · iintro H
    sl_step
    iapply Hk; iexact H
  isplitl [Hb]; · iexact Hb
  isplitl [Hp]; · iexact Hp
  isplitl [Hl]; · iexact Hl
  isplitl [Hg]; · iexact Hg
  iexact Ht

end Cert.Proof.Mov

end
-- ==== Proof.Blk.lean ====
/-
  What the three TensorCore regions leave in their output arrays, block by block.
-/
module

public import proofs.«01_k».proof.Proof.Region
public import Idealize.ShloMosaic.Lib.Pipeline.ArrRel
public import Idealize.ShloMosaic.Lib.Pipeline.ValueKit

@[expose] public section

noncomputable section

namespace Cert.Proof.Mov

open Cert.KernelIdeal Cert.KernelIdeal.Gen

open Idealize.ShloMosaic
open Idealize.ShloMosaic.Pipeline

variable {F : FTy → Type} [FloatOps F] [∀ e, Nonempty (Elt F e)]

/-- The movie table repacked: each block of 16384 rows is one of the repack's output blocks. -/
def Blk0 (c : Dev nD) (A : Buf (Elt F) ((c.tc : Thread nD τ).loc main_v1)) (G : S32768x128.Idx → Elt F .f32) : Prop :=
  ∃ X : Fin 2 → S16384x128.Idx → Elt F .f32, (∀ t : Fin 2, Out0 c A t (X t))
    ∧ ∀ (t : Fin 2) (r : Fin 16384) (k : Fin 128), G (ValueIdx.ix2 ⟨t.val * 16384 + r.val, by omega⟩ k) = X t (ValueIdx.ix2 r k)

/-- The repack of the movie table writes point `t`'s block at rows `16384 t` and on. -/
theorem idx0 : ∀ t : Fin cfg0.N, win0_4.index t = ![t.val, 0] := by decide +kernel

/-- What the repack of the movie table may leave in its output array is repacked blocks. -/
theorem blk0 (V : Valuation τ sig (Elt F)) (n : ℕ) (c : Dev nD) (G : Buf (Elt F) ((cfg0.win 4).arr.view.loc (c.tc : Thread nD τ)))
    (h : (rd0 V n c).ArrAt 4 cfg0.N G) : Blk0 c (V (Proc.devRef .tc main_v1)) G := by
  obtain ⟨X, hX, hA⟩ := h.exists_exact
  refine ⟨X, fun t => ?_, fun t r k => ?_⟩
  · obtain ⟨Y, -, hY⟩ := hX t t.isLt (flush0_4 t)
    exact hY
  · rw [hA (Function.update (fun _ _ _ => Classical.arbitrary _) 4 X) fun u _ _ => by rw [Function.update_self]]
    refine (fun key => key _ t r k rfl) (((rd0 V n c).withAfter (Function.update (fun _ _ _ => Classical.arbitrary _) 4 X)).arrAt_forall_of_covers 4
      (fun i v => ∀ (t : Fin 2) (r : Fin 16384) (k : Fin 128),
        i = ValueIdx.ix2 ⟨t.val * 16384 + r.val, by omega⟩ k → v = X t (ValueIdx.ix2 r k)) (by decide +kernel) ?_)
    intro t hf y t' r' k' e
    rw [RDat.withAfter_after, Function.update_self]
    have h0 := congrArg (fun i : S32768x128.Idx => (i 0).val) e
    have h1 := congrArg (fun i : S32768x128.Idx => (i 1).val) e
    blk_simp [idx0] at h0 h1
    change t.val * 16384 + (y 0).val = t'.val * 16384 + r'.val at h0
    change (y 1).val = k'.val at h1
    have b0 : (y 0).val < 16384 := (y 0).isLt
    obtain rfl : t = t' := Fin.ext (by omega)
    refine congrArg (X t) (funext fun a => ?_)
    match a with
    | ⟨0, _⟩ => exact Fin.ext (by change (y 0).val = r'.val; omega)
    | ⟨1, _⟩ => exact Fin.ext h1

/-- The user table repacked: each block of 16384 rows is one of the repack's output blocks. -/
def Blk1 (c : Dev nD) (A : Buf (Elt F) ((c.tc : Thread nD τ).loc main_v5)) (G : S262144x128.Idx → Elt F .f32) : Prop :=
  ∃ X : Fin 16 → S16384x128.Idx → Elt F .f32, (∀ t : Fin 16, Out1 c A t (X t))
    ∧ ∀ (t : Fin 16) (r : Fin 16384) (k : Fin 128), G (ValueIdx.ix2 ⟨t.val * 16384 + r.val, by omega⟩ k) = X t (ValueIdx.ix2 r k)

/-- The repack of the user table writes point `t`'s block at rows `16384 t` and on. -/
theorem idx1 : ∀ t : Fin cfg1.N, win1_4.index t = ![t.val, 0] := by decide +kernel

/-- What the repack of the user table may leave in its output array is repacked blocks. -/
theorem blk1 (V : Valuation τ sig (Elt F)) (n : ℕ) (c : Dev nD) (G : Buf (Elt F) ((cfg1.win 4).arr.view.loc (c.tc : Thread nD τ)))
    (h : (rd1 V n c).ArrAt 4 cfg1.N G) : Blk1 c (V (Proc.devRef .tc main_v5)) G := by
  obtain ⟨X, hX, hA⟩ := h.exists_exact
  refine ⟨X, fun t => ?_, fun t r k => ?_⟩
  · obtain ⟨Y, -, hY⟩ := hX t t.isLt (flush1_4 t)
    exact hY
  · rw [hA (Function.update (fun _ _ _ => Classical.arbitrary _) 4 X) fun u _ _ => by rw [Function.update_self]]
    refine (fun key => key _ t r k rfl) (((rd1 V n c).withAfter (Function.update (fun _ _ _ => Classical.arbitrary _) 4 X)).arrAt_forall_of_covers 4
      (fun i v => ∀ (t : Fin 16) (r : Fin 16384) (k : Fin 128),
        i = ValueIdx.ix2 ⟨t.val * 16384 + r.val, by omega⟩ k → v = X t (ValueIdx.ix2 r k)) (by decide +kernel) ?_)
    intro t hf y t' r' k' e
    rw [RDat.withAfter_after, Function.update_self]
    have h0 := congrArg (fun i : S262144x128.Idx => (i 0).val) e
    have h1 := congrArg (fun i : S262144x128.Idx => (i 1).val) e
    blk_simp [idx1] at h0 h1
    change t.val * 16384 + (y 0).val = t'.val * 16384 + r'.val at h0
    change (y 1).val = k'.val at h1
    have b0 : (y 0).val < 16384 := (y 0).isLt
    obtain rfl : t = t' := Fin.ext (by omega)
    refine congrArg (X t) (funext fun a => ?_)
    match a with
    | ⟨0, _⟩ => exact Fin.ext (by change (y 0).val = r'.val; omega)
    | ⟨1, _⟩ => exact Fin.ext h1

/-- The region's output: each block of 1024 results is one of its output blocks. -/
def Blk2 (c : Dev nD) (A : (w : Fin cfg4.W) → Buf (Elt F) ((cfg4.win w).arr.view.loc (c.tc : Thread nD τ))) (G : S16384.Idx → Elt F .f32) : Prop :=
  ∃ X : Fin 16 → S1024.Idx → Elt F .f32, (∀ t : Fin 16, Out2 c A t (X t))
    ∧ ∀ (t : Fin 16) (r : Fin 1024), G (ValueIdx.ix1 ⟨t.val * 1024 + r.val, by omega⟩) = X t (ValueIdx.ix1 r)

/-- The region writes point `t`'s block at `1024 t` and on. -/
theorem idx4 : ∀ t : Fin cfg4.N, win4_11.index t = ![t.val] := by decide +kernel

/-- What the last region may leave in its output array is its output blocks. -/
theorem blk2 (V : Valuation τ sig (Elt F)) (n : ℕ) (c : Dev nD) (G : Buf (Elt F) ((cfg4.win 11).arr.view.loc (c.tc : Thread nD τ)))
    (h : (rd2 V n c).ArrAt 11 cfg4.N G) : Blk2 c (arrOf cfg4 V c) G := by
  obtain ⟨X, hX, hA⟩ := h.exists_exact
  refine ⟨X, fun t => ?_, fun t r => ?_⟩
  · obtain ⟨Y, -, hY⟩ := hX t t.isLt (flush4_11 t)
    exact hY
  · rw [hA (Function.update (fun _ _ _ => Classical.arbitrary _) 11 X) fun u _ _ => by rw [Function.update_self]]
    refine (fun key => key _ t r rfl) (((rd2 V n c).withAfter (Function.update (fun _ _ _ => Classical.arbitrary _) 11 X)).arrAt_forall_of_covers 11
      (fun i v => ∀ (t : Fin 16) (r : Fin 1024), i = ValueIdx.ix1 ⟨t.val * 1024 + r.val, by omega⟩ → v = X t (ValueIdx.ix1 r)) (by decide +kernel) ?_)
    intro t hf y t' r' e
    rw [RDat.withAfter_after, Function.update_self]
    have h0 := congrArg (fun i : S16384.Idx => (i 0).val) e
    blk_simp [idx4] at h0
    change t.val * 1024 + (y 0).val = t'.val * 1024 + r'.val at h0
    have b0 : (y 0).val < 1024 := (y 0).isLt
    obtain rfl : t = t' := Fin.ext (by omega)
    refine congrArg (X t) (funext fun a => ?_)
    match a with
    | ⟨0, _⟩ => exact Fin.ext (by change (y 0).val = r'.val; omega)

end Cert.Proof.Mov

end
-- ==== Proof.Host.lean ====
/-
  The main thread's buffers between its steps: taking arrays out of the held buffers and putting them back, and the three
  regions as steps over the held buffers.
-/
module

public import proofs.«01_k».proof.Proof.Blk
public import Idealize.ShloMosaic.Lib.Pipeline.Frame

@[expose] public section

noncomputable section

namespace Cert.Proof.Mov

open Cert.KernelIdeal Cert.KernelIdeal.Gen

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.StableHlo (held)

variable {F : FTy → Type} [FloatOps F] [∀ e, Nonempty (Elt F e)]

local notation "𝕄" => MT nD τ sig (HIx 2) (Elt F) ℕ UU ℕ

/-- A TensorCore buffer by its reference on the device. -/
abbrev dr (b : Ref sig .tc) : DevRef τ sig := Proc.devRef .tc b

section
variable (c : Dev nD) {S : Finset (DevRef τ sig)} {y : DevRef τ sig} (hy : y ∈ S) (V : Valuation τ sig (Elt F))
include hy

/-- One held buffer taken out. -/
theorem held_take : (held (c.tc : Thread nD τ) S V : sProp 𝕄)
    ⊢ iprop((((c, y) : Loc nD τ sig) ↦{fullShare} V y) ∗ held (c.tc : Thread nD τ) (S.erase y) V) := by
  have e : (held (c.tc : Thread nD τ) S V : sProp 𝕄) = held (c.tc : Thread nD τ) (insert y (S.erase y)) V := by
    rw [Finset.insert_erase hy]
  rw [e]
  unfold held
  rw [SparseCore.bigSep_insert' (Finset.notMem_erase y S)]

/-- One buffer put back at other contents. -/
theorem held_put (G : Buf (Elt F) ((c, y) : Loc nD τ sig)) :
    (iprop((((c, y) : Loc nD τ sig) ↦{fullShare} G) ∗ held (c.tc : Thread nD τ) (S.erase y) V) : sProp 𝕄)
    ⊢ held (c.tc : Thread nD τ) S (Function.update V y G) := by
  have e : (held (c.tc : Thread nD τ) S (Function.update V y G) : sProp 𝕄)
      = held (c.tc : Thread nD τ) (insert y (S.erase y)) (Function.update V y G) := by
    rw [Finset.insert_erase hy]
  rw [e, StableHlo.held_congr (c.tc : Thread nD τ) (S := S.erase y) (V := V) (V' := Function.update V y G)
    fun b hb => (Function.update_of_ne (Finset.ne_of_mem_erase hb) G V).symm]
  unfold held
  rw [SparseCore.bigSep_insert' (Finset.notMem_erase y S), Function.update_self]

/-- One buffer put back as it was. -/
theorem held_back : (iprop((((c, y) : Loc nD τ sig) ↦{fullShare} V y) ∗ held (c.tc : Thread nD τ) (S.erase y) V) : sProp 𝕄)
    ⊢ held (c.tc : Thread nD τ) S V := by
  have h := held_put (F := F) c hy V (V y)
  rwa [Function.update_eq_self] at h

/-- A held buffer is in the final memory. -/
theorem held_read (s' : Phys nD τ sig (Elt F)) :
    (iprop(held (c.tc : Thread nD τ) S V ∗ SI s') : sProp 𝕄) ⊢ ⌜s'.mem.mem ((c, y) : Loc nD τ sig) = V y⌝ := by
  iintro ⟨H, HSI⟩
  ihave H := (held_take (F := F) c hy V) $$ H
  icases H with ⟨H, -⟩
  ihave H := (SI_pointsTo_agree (st := s') (ℓ := ((c, y) : Loc nD τ sig)) (I := Finset.univ) (q := fullShare) (f := V y)) $$ [HSI H]
  · isplitl [HSI] <;> iassumption
  icases H with %h
  ipureintro; exact funext fun i => h i (Finset.mem_univ i)

end

theorem mem_uc (b : Ref sig .tc) (h : b.isScoped = false) : dr b ∈ ucRefs τ sig :=
  Finset.mem_filter.mpr ⟨StableHlo.devRef_mem_tcRefs _, fun h' => Bool.false_ne_true (h.symm.trans h')⟩

/-! ## The repacks: one array read through four windows -/

/-- The whole share is four pieces and the rest. -/
theorem pieces_split {ℓ : Loc nD τ sig} (f : Buf (Elt F) ℓ) : (ℓ ↦{fullShare} f : sProp 𝕄)
    ⊢ iprop((ℓ ↦{piece fullShare 0} f) ∗ (ℓ ↦{piece fullShare 1} f) ∗ (ℓ ↦{piece fullShare 2} f) ∗ (ℓ ↦{piece fullShare 3} f)
      ∗ (ℓ ↦{rest fullShare 4} f)) := by
  have h (k : ℕ) : (ℓ ↦{rest fullShare k} f : sProp 𝕄) ⊢ iprop((ℓ ↦{piece fullShare k} f) ∗ (ℓ ↦{rest fullShare (k + 1)} f)) :=
    (pointsTo_share (ℓ := ℓ) (f := f) (PosShare.mem_left_op_right (rest fullShare k))).1
  iintro H
  have h' : (ℓ ↦{fullShare} f : sProp 𝕄) ⊢ iprop((ℓ ↦{piece fullShare 0} f) ∗ (ℓ ↦{rest fullShare 1} f)) := h 0
  ihave H := h' $$ H
  icases H with ⟨H0, H⟩
  ihave H := (h 1) $$ H
  icases H with ⟨H1, H⟩
  ihave H := (h 2) $$ H
  icases H with ⟨H2, H⟩
  ihave H := (h 3) $$ H
  icases H with ⟨H3, H⟩
  isplitl [H0]; · iexact H0
  isplitl [H1]; · iexact H1
  isplitl [H2]; · iexact H2
  isplitl [H3]; · iexact H3
  iexact H

/-- Four pieces and the rest are the whole share. -/
theorem pieces_join {ℓ : Loc nD τ sig} (f : Buf (Elt F) ℓ) :
    (iprop((ℓ ↦{piece fullShare 0} f) ∗ (ℓ ↦{piece fullShare 1} f) ∗ (ℓ ↦{piece fullShare 2} f) ∗ (ℓ ↦{piece fullShare 3} f)
      ∗ (ℓ ↦{rest fullShare 4} f)) : sProp 𝕄) ⊢ (ℓ ↦{fullShare} f) := by
  have h (k : ℕ) : (iprop((ℓ ↦{piece fullShare k} f) ∗ (ℓ ↦{rest fullShare (k + 1)} f)) : sProp 𝕄) ⊢ (ℓ ↦{rest fullShare k} f) :=
    (pointsTo_share (ℓ := ℓ) (f := f) (PosShare.mem_left_op_right (rest fullShare k))).2
  iintro ⟨H0, H1, H2, H3, H⟩
  ihave H := (h 3) $$ [H3 H]; · isplitl [H3] <;> iassumption
  ihave H := (h 2) $$ [H2 H]; · isplitl [H2] <;> iassumption
  ihave H := (h 1) $$ [H1 H]; · isplitl [H1] <;> iassumption
  have h' : (iprop((ℓ ↦{piece fullShare 0} f) ∗ (ℓ ↦{rest fullShare 1} f)) : sProp 𝕄) ⊢ (ℓ ↦{fullShare} f) := h 0
  ihave H := h' $$ [H0 H]; · isplitl [H0] <;> iassumption
  iexact H

theorem mem_uc' (b a : Ref sig .tc) (h : b.isScoped = false) (hne : b ≠ a) : dr b ∈ (ucRefs τ sig).erase (dr a) :=
  Finset.mem_erase.mpr ⟨StableHlo.devRef_ne_of_ne hne, mem_uc b h⟩

section
variable (V : Valuation τ sig (Elt F)) (n : ℕ) (c : Dev nD)

theorem arrays0 (G : (w : Fin cfg0.W) → Buf (Elt F) ((cfg0.win w).arr.view.loc (c.tc : Thread nD τ))) : ((rd0 V n c).arrays G : sProp 𝕄)
    = iprop((((c, dr main_v1) : Loc nD τ sig) ↦{piece fullShare 0} G 0) ∗ (((c, dr main_v1) : Loc nD τ sig) ↦{piece fullShare 1} G 1)
      ∗ (((c, dr main_v1) : Loc nD τ sig) ↦{piece fullShare 2} G 2) ∗ (((c, dr main_v1) : Loc nD τ sig) ↦{piece fullShare 3} G 3)
      ∗ (((c, dr main_v2) : Loc nD τ sig) ↦{fullShare} G 4)) := by
  unfold RDat.arrays
  have e : (bigSep Finset.univ fun w : Fin 5 => ((cfg0.win w).arr.view.loc (c.tc : Thread nD τ) ↦[(cfg0.win w).arr.view.set]{(rd0 V n c).share w} G w : sProp 𝕄))
      = bigSep Finset.univ fun w : Fin 5 => ((cfg0.win w).arr.view.loc (c.tc : Thread nD τ) ↦{(rd0 V n c).share w} G w : sProp 𝕄) :=
    bigSep_congr fun w _ => by rw [(arr_whole0 w).set_eq_univ]
  exact e.trans (bigSep_W0 _)

/-- The movie table's repack takes its arrays from the held buffers, one piece of its input's share a window. -/
theorem enter0 : (held (c.tc : Thread nD τ) (ucRefs τ sig) V : sProp 𝕄)
    ⊢ iprop((rd0 V n c).arrays (rd0 V n c).A ∗ (((c, dr main_v1) : Loc nD τ sig) ↦{rest fullShare 4} V (dr main_v1))
      ∗ held (c.tc : Thread nD τ) (((ucRefs τ sig).erase (dr main_v1)).erase (dr main_v2)) V) := by
  rw [arrays0]
  iintro H
  ihave H := (held_take (F := F) c (mem_uc main_v1 (by decide)) V) $$ H
  icases H with ⟨Hi, H⟩
  ihave H := (held_take (F := F) c (mem_uc' main_v2 main_v1 (by decide) (by decide)) V) $$ H
  icases H with ⟨Ho, H⟩
  ihave Hi := (pieces_split (F := F) _) $$ Hi
  icases Hi with ⟨H0, H1, H2, H3, Hr⟩
  isplitl [H0 H1 H2 H3 Ho]
  · isplitl [H0]; · iexact H0
    isplitl [H1]; · iexact H1
    isplitl [H2]; · iexact H2
    isplitl [H3]; · iexact H3
    iexact Ho
  isplitl [Hr]; · iexact Hr
  iexact H

theorem arraysAt0 : ((rd0 V n c).arraysAt cfg0.N : sProp 𝕄)
    ⊢ iprop(∃ G, ⌜∀ w, (rd0 V n c).ArrAt w cfg0.N (G w)⌝ ∗ (rd0 V n c).arrays G) := by
  unfold RDat.arraysAt RDat.arrays
  iintro H
  ihave H := (bigSep_exists_pi Finset.univ (fun w G => (iprop(⌜(rd0 V n c).ArrAt w cfg0.N G⌝
      ∗ (cfg0.win w).arr.view.loc (c.tc : Thread nD τ) ↦[(cfg0.win w).arr.view.set]{(rd0 V n c).share w} G) : sProp 𝕄))) $$ H
  icases H with ⟨%G, H⟩
  ihave H := (bigSep_pure_sep Finset.univ (fun w => (rd0 V n c).ArrAt w cfg0.N (G w))
    (fun w => ((cfg0.win w).arr.view.loc (c.tc : Thread nD τ) ↦[(cfg0.win w).arr.view.set]{(rd0 V n c).share w} G w : sProp 𝕄))) $$ H
  icases H with ⟨%h, H⟩
  iexists G
  isplitr; · ipureintro; exact fun w => h w (Finset.mem_univ w)
  iexact H

/-- The movie table's repack gives its arrays back, its output at repacked blocks. -/
theorem leave0 : (iprop((rd0 V n c).arraysAt cfg0.N ∗ (((c, dr main_v1) : Loc nD τ sig) ↦{rest fullShare 4} V (dr main_v1))
      ∗ held (c.tc : Thread nD τ) (((ucRefs τ sig).erase (dr main_v1)).erase (dr main_v2)) V) : sProp 𝕄)
    ⊢ iprop(∃ G, ⌜Blk0 c (V (dr main_v1)) G⌝ ∗ held (c.tc : Thread nD τ) (ucRefs τ sig) (Function.update V (dr main_v2) G)) := by
  iintro ⟨HA, Hr, H⟩
  ihave HA := (arraysAt0 V n c) $$ HA
  icases HA with ⟨%G, %hG, HA⟩
  have hin (w : Fin 5) (hw : (cfg0.win w).isOut = false) : G w = (rd0 V n c).A w := by
    have := hG w; rw [RDat.ArrAt_in _ _ hw] at this; exact this
  have h0 : G 0 = V (dr main_v1) := hin 0 rfl
  have h1 : G 1 = V (dr main_v1) := hin 1 rfl
  have h2 : G 2 = V (dr main_v1) := hin 2 rfl
  have h3 : G 3 = V (dr main_v1) := hin 3 rfl
  have e := arrays0 V n c G
  rw [h0, h1, h2, h3] at e
  ihave HA := (Entails.of_eq e) $$ HA
  icases HA with ⟨H0, H1, H2, H3, Ho⟩
  iexists G 4
  isplitr; · ipureintro; exact blk0 V n c (G 4) (hG 4)
  ihave Hi := (pieces_join (F := F) (ℓ := ((c, dr main_v1) : Loc nD τ sig)) (V (dr main_v1))) $$ [H0 H1 H2 H3 Hr]
  · isplitl [H0]; · iexact H0
    isplitl [H1]; · iexact H1
    isplitl [H2]; · iexact H2
    isplitl [H3]; · iexact H3
    iexact Hr
  have hne : dr main_v1 ≠ dr main_v2 := StableHlo.devRef_ne_of_ne (by decide)
  have ee : (held (c.tc : Thread nD τ) (((ucRefs τ sig).erase (dr main_v1)).erase (dr main_v2)) V : sProp 𝕄)
      = held (c.tc : Thread nD τ) (((ucRefs τ sig).erase (dr main_v2)).erase (dr main_v1)) V := by rw [Finset.erase_right_comm]
  ihave H := (Entails.of_eq ee) $$ H
  ihave H := (held_back (F := F) c (mem_uc' main_v1 main_v2 (by decide) (by decide)) V) $$ [Hi H]
  · isplitl [Hi]; · iexact Hi
    iexact H
  iapply (held_put (F := F) c (mem_uc main_v2 (by decide)) V (G 4))
  isplitl [Ho]; · iexact Ho
  iexact H

/-- The movie table's repack as a step of the main thread over its held buffers. -/
theorem repack0 (Q : PUnit → sProp 𝕄) :
    iprop(boundary (c.tc : Thread nD τ) ∗ held (c.tc : Thread nD τ) (ucRefs τ sig) V ∗ owed (F := F) c n
        ∗ levAts (K (F := F)).L (K (F := F)).lev ∗ dealt (F := F) 0 c
        ∗ (∀ G, ⌜Blk0 c (V (dr main_v1)) G⌝ -∗ boundary (c.tc : Thread nD τ) -∗ held (c.tc : Thread nD τ) (ucRefs τ sig) (Function.update V (dr main_v2) G)
            -∗ owed (F := F) c n -∗ Q ⟨⟩))
      ⊢ wp frame (wpE ((K (F := F)).defs D) 𝒱 (T c) none) Set.univ (Prog.lift (.customCall (SparseCore.inner (Pipeline.entry 0)) ())) Q := by
  iintro ⟨Hb, H, Ho, Hl, Hd, Hk⟩
  ihave H := (enter0 V n c) $$ H
  icases H with ⟨HA, Hr, H⟩
  have epost : ((seg0 V n).post c : sProp 𝕄) = iprop((rd0 V n c).arraysAt cfg0.N ∗ owed (F := F) c n) := rfl
  have epre : ((seg0 V n).pre c : sProp 𝕄) = iprop((rd0 V n c).arrays (rd0 V n c).A ∗ owed (F := F) c n) := rfl
  iapply (region_wp (F := F) (seg0 V n) c Q)
  isplitl [Hr H Hk]
  · iintro ⟨Hb, HA⟩
    ihave HA := (Entails.of_eq epost) $$ HA
    icases HA with ⟨HA, Ho⟩
    ihave H := (leave0 V n c) $$ [HA Hr H]
    · isplitl [HA]; · iexact HA
      isplitl [Hr]; · iexact Hr
      iexact H
    icases H with ⟨%G, %hG, H⟩
    iapply Hk $$ %G %hG Hb H Ho
  isplitl [Hb]; · iexact Hb
  isplitl [HA Ho]
  · iapply (Entails.of_eq epre.symm)
    isplitl [HA]; · iexact HA
    iexact Ho
  isplitl [Hl]; · iexact Hl
  iexact Hd

end

section
variable (V : Valuation τ sig (Elt F)) (n : ℕ) (c : Dev nD)

theorem arrays1 (G : (w : Fin cfg1.W) → Buf (Elt F) ((cfg1.win w).arr.view.loc (c.tc : Thread nD τ))) : ((rd1 V n c).arrays G : sProp 𝕄)
    = iprop((((c, dr main_v5) : Loc nD τ sig) ↦{piece fullShare 0} G 0) ∗ (((c, dr main_v5) : Loc nD τ sig) ↦{piece fullShare 1} G 1)
      ∗ (((c, dr main_v5) : Loc nD τ sig) ↦{piece fullShare 2} G 2) ∗ (((c, dr main_v5) : Loc nD τ sig) ↦{piece fullShare 3} G 3)
      ∗ (((c, dr main_v6) : Loc nD τ sig) ↦{fullShare} G 4)) := by
  unfold RDat.arrays
  have e : (bigSep Finset.univ fun w : Fin 5 => ((cfg1.win w).arr.view.loc (c.tc : Thread nD τ) ↦[(cfg1.win w).arr.view.set]{(rd1 V n c).share w} G w : sProp 𝕄))
      = bigSep Finset.univ fun w : Fin 5 => ((cfg1.win w).arr.view.loc (c.tc : Thread nD τ) ↦{(rd1 V n c).share w} G w : sProp 𝕄) :=
    bigSep_congr fun w _ => by rw [(arr_whole1 w).set_eq_univ]
  exact e.trans (bigSep_W1 _)

/-- The user table's repack takes its arrays from the held buffers, one piece of its input's share a window. -/
theorem enter1 : (held (c.tc : Thread nD τ) (ucRefs τ sig) V : sProp 𝕄)
    ⊢ iprop((rd1 V n c).arrays (rd1 V n c).A ∗ (((c, dr main_v5) : Loc nD τ sig) ↦{rest fullShare 4} V (dr main_v5))
      ∗ held (c.tc : Thread nD τ) (((ucRefs τ sig).erase (dr main_v5)).erase (dr main_v6)) V) := by
  rw [arrays1]
  iintro H
  ihave H := (held_take (F := F) c (mem_uc main_v5 (by decide)) V) $$ H
  icases H with ⟨Hi, H⟩
  ihave H := (held_take (F := F) c (mem_uc' main_v6 main_v5 (by decide) (by decide)) V) $$ H
  icases H with ⟨Ho, H⟩
  ihave Hi := (pieces_split (F := F) _) $$ Hi
  icases Hi with ⟨H0, H1, H2, H3, Hr⟩
  isplitl [H0 H1 H2 H3 Ho]
  · isplitl [H0]; · iexact H0
    isplitl [H1]; · iexact H1
    isplitl [H2]; · iexact H2
    isplitl [H3]; · iexact H3
    iexact Ho
  isplitl [Hr]; · iexact Hr
  iexact H

theorem arraysAt1 : ((rd1 V n c).arraysAt cfg1.N : sProp 𝕄)
    ⊢ iprop(∃ G, ⌜∀ w, (rd1 V n c).ArrAt w cfg1.N (G w)⌝ ∗ (rd1 V n c).arrays G) := by
  unfold RDat.arraysAt RDat.arrays
  iintro H
  ihave H := (bigSep_exists_pi Finset.univ (fun w G => (iprop(⌜(rd1 V n c).ArrAt w cfg1.N G⌝
      ∗ (cfg1.win w).arr.view.loc (c.tc : Thread nD τ) ↦[(cfg1.win w).arr.view.set]{(rd1 V n c).share w} G) : sProp 𝕄))) $$ H
  icases H with ⟨%G, H⟩
  ihave H := (bigSep_pure_sep Finset.univ (fun w => (rd1 V n c).ArrAt w cfg1.N (G w))
    (fun w => ((cfg1.win w).arr.view.loc (c.tc : Thread nD τ) ↦[(cfg1.win w).arr.view.set]{(rd1 V n c).share w} G w : sProp 𝕄))) $$ H
  icases H with ⟨%h, H⟩
  iexists G
  isplitr; · ipureintro; exact fun w => h w (Finset.mem_univ w)
  iexact H

/-- The user table's repack gives its arrays back, its output at repacked blocks. -/
theorem leave1 : (iprop((rd1 V n c).arraysAt cfg1.N ∗ (((c, dr main_v5) : Loc nD τ sig) ↦{rest fullShare 4} V (dr main_v5))
      ∗ held (c.tc : Thread nD τ) (((ucRefs τ sig).erase (dr main_v5)).erase (dr main_v6)) V) : sProp 𝕄)
    ⊢ iprop(∃ G, ⌜Blk1 c (V (dr main_v5)) G⌝ ∗ held (c.tc : Thread nD τ) (ucRefs τ sig) (Function.update V (dr main_v6) G)) := by
  iintro ⟨HA, Hr, H⟩
  ihave HA := (arraysAt1 V n c) $$ HA
  icases HA with ⟨%G, %hG, HA⟩
  have hin (w : Fin 5) (hw : (cfg1.win w).isOut = false) : G w = (rd1 V n c).A w := by
    have := hG w; rw [RDat.ArrAt_in _ _ hw] at this; exact this
  have h0 : G 0 = V (dr main_v5) := hin 0 rfl
  have h1 : G 1 = V (dr main_v5) := hin 1 rfl
  have h2 : G 2 = V (dr main_v5) := hin 2 rfl
  have h3 : G 3 = V (dr main_v5) := hin 3 rfl
  have e := arrays1 V n c G
  rw [h0, h1, h2, h3] at e
  ihave HA := (Entails.of_eq e) $$ HA
  icases HA with ⟨H0, H1, H2, H3, Ho⟩
  iexists G 4
  isplitr; · ipureintro; exact blk1 V n c (G 4) (hG 4)
  ihave Hi := (pieces_join (F := F) (ℓ := ((c, dr main_v5) : Loc nD τ sig)) (V (dr main_v5))) $$ [H0 H1 H2 H3 Hr]
  · isplitl [H0]; · iexact H0
    isplitl [H1]; · iexact H1
    isplitl [H2]; · iexact H2
    isplitl [H3]; · iexact H3
    iexact Hr
  have hne : dr main_v5 ≠ dr main_v6 := StableHlo.devRef_ne_of_ne (by decide)
  have ee : (held (c.tc : Thread nD τ) (((ucRefs τ sig).erase (dr main_v5)).erase (dr main_v6)) V : sProp 𝕄)
      = held (c.tc : Thread nD τ) (((ucRefs τ sig).erase (dr main_v6)).erase (dr main_v5)) V := by rw [Finset.erase_right_comm]
  ihave H := (Entails.of_eq ee) $$ H
  ihave H := (held_back (F := F) c (mem_uc' main_v5 main_v6 (by decide) (by decide)) V) $$ [Hi H]
  · isplitl [Hi]; · iexact Hi
    iexact H
  iapply (held_put (F := F) c (mem_uc main_v6 (by decide)) V (G 4))
  isplitl [Ho]; · iexact Ho
  iexact H

/-- The user table's repack as a step of the main thread over its held buffers. -/
theorem repack1 (Q : PUnit → sProp 𝕄) :
    iprop(boundary (c.tc : Thread nD τ) ∗ held (c.tc : Thread nD τ) (ucRefs τ sig) V ∗ owed (F := F) c n
        ∗ levAts (K (F := F)).L (K (F := F)).lev ∗ dealt (F := F) 1 c
        ∗ (∀ G, ⌜Blk1 c (V (dr main_v5)) G⌝ -∗ boundary (c.tc : Thread nD τ) -∗ held (c.tc : Thread nD τ) (ucRefs τ sig) (Function.update V (dr main_v6) G)
            -∗ owed (F := F) c n -∗ Q ⟨⟩))
      ⊢ wp frame (wpE ((K (F := F)).defs D) 𝒱 (T c) none) Set.univ (Prog.lift (.customCall (SparseCore.inner (Pipeline.entry 1)) ())) Q := by
  iintro ⟨Hb, H, Ho, Hl, Hd, Hk⟩
  ihave H := (enter1 V n c) $$ H
  icases H with ⟨HA, Hr, H⟩
  have epost : ((seg1 V n).post c : sProp 𝕄) = iprop((rd1 V n c).arraysAt cfg1.N ∗ owed (F := F) c n) := rfl
  have epre : ((seg1 V n).pre c : sProp 𝕄) = iprop((rd1 V n c).arrays (rd1 V n c).A ∗ owed (F := F) c n) := rfl
  iapply (region_wp (F := F) (seg1 V n) c Q)
  isplitl [Hr H Hk]
  · iintro ⟨Hb, HA⟩
    ihave HA := (Entails.of_eq epost) $$ HA
    icases HA with ⟨HA, Ho⟩
    ihave H := (leave1 V n c) $$ [HA Hr H]
    · isplitl [HA]; · iexact HA
      isplitl [Hr]; · iexact Hr
      iexact H
    icases H with ⟨%G, %hG, H⟩
    iapply Hk $$ %G %hG Hb H Ho
  isplitl [Hb]; · iexact Hb
  isplitl [HA Ho]
  · iapply (Entails.of_eq epre.symm)
    isplitl [HA]; · iexact HA
    iexact Ho
  isplitl [Hl]; · iexact Hl
  iexact Hd

end

/-! ## The last region: twelve arrays, all different -/

section
variable (V : Valuation τ sig (Elt F)) (n : ℕ) (c : Dev nD)

/-- The region's arrays, as buffers held at a valuation. -/
theorem arrays2 (G : (w : Fin cfg4.W) → Buf (Elt F) ((cfg4.win w).arr.view.loc (c.tc : Thread nD τ))) (W : Valuation τ sig (Elt F))
    (hG : ∀ w, G w = W (dr (arrRef cfg4.spec w))) :
    ((rd2 V n c).arrays G : sProp 𝕄) = held (c.tc : Thread nD τ) (Pipeline.arrRefs cfg4.spec) W := by
  have hsh (w : Fin 12) : (rd2 V n c).share w = fullShare := by
    unfold RDat.share
    split_ifs <;> rfl
  unfold RDat.arrays held Pipeline.arrRefs
  have ei : Finset.univ.image (arrRef cfg4.spec) = Finset.univ.map ⟨arrRef cfg4.spec, winFacts4.arr_inj⟩ :=
    (Finset.map_eq_image ⟨arrRef cfg4.spec, winFacts4.arr_inj⟩ Finset.univ).symm
  rw [ei, bigSep_map, bigSep_map]
  refine bigSep_congr fun w _ => ?_
  rw [(arr_whole4 w).set_eq_univ, hsh w, hG w]
  rfl

theorem arrRefs2_sub : Pipeline.arrRefs (τ := τ) cfg4.spec ⊆ ucRefs τ sig := Pipeline.arrRefs_sub_ucRefs cfg4.spec (by decide)

theorem arraysAt2 : ((rd2 V n c).arraysAt cfg4.N : sProp 𝕄)
    ⊢ iprop(∃ G, ⌜∀ w, (rd2 V n c).ArrAt w cfg4.N (G w)⌝ ∗ (rd2 V n c).arrays G) := by
  unfold RDat.arraysAt RDat.arrays
  iintro H
  ihave H := (bigSep_exists_pi Finset.univ (fun w G => (iprop(⌜(rd2 V n c).ArrAt w cfg4.N G⌝
      ∗ (cfg4.win w).arr.view.loc (c.tc : Thread nD τ) ↦[(cfg4.win w).arr.view.set]{(rd2 V n c).share w} G) : sProp 𝕄))) $$ H
  icases H with ⟨%G, H⟩
  ihave H := (bigSep_pure_sep Finset.univ (fun w => (rd2 V n c).ArrAt w cfg4.N (G w))
    (fun w => ((cfg4.win w).arr.view.loc (c.tc : Thread nD τ) ↦[(cfg4.win w).arr.view.set]{(rd2 V n c).share w} G w : sProp 𝕄))) $$ H
  icases H with ⟨%h, H⟩
  iexists G
  isplitr; · ipureintro; exact fun w => h w (Finset.mem_univ w)
  iexact H

/-- The region gives its arrays back, its output at its output blocks. -/
theorem leave2 {S : Finset (DevRef τ sig)} (hS : Pipeline.arrRefs (τ := τ) cfg4.spec ⊆ S) : (iprop((rd2 V n c).arraysAt cfg4.N ∗ held (c.tc : Thread nD τ) (S \ Pipeline.arrRefs cfg4.spec) V) : sProp 𝕄)
    ⊢ iprop(∃ G, ⌜Blk2 c (arrOf cfg4 V c) G⌝ ∗ held (c.tc : Thread nD τ) S (Function.update V (dr main_v33) G)) := by
  iintro ⟨HA, H⟩
  ihave HA := (arraysAt2 V n c) $$ HA
  icases HA with ⟨%G, %hG, HA⟩
  have hin (w : Fin 12) (hw : (cfg4.win w).isOut = false) (hne : arrRef cfg4.spec w ≠ main_v33) :
      G w = Function.update V (dr main_v33) (G 11) (dr (arrRef cfg4.spec w)) := by
    rw [Function.update_of_ne (StableHlo.devRef_ne_of_ne hne)]
    have := hG w
    rw [RDat.ArrAt_in _ _ hw] at this; exact this
  have hall : ∀ w, G w = Function.update V (dr main_v33) (G 11) (dr (arrRef cfg4.spec w)) := fun
    | 0 => hin 0 rfl (by decide) | 1 => hin 1 rfl (by decide) | 2 => hin 2 rfl (by decide) | 3 => hin 3 rfl (by decide)
    | 4 => hin 4 rfl (by decide) | 5 => hin 5 rfl (by decide) | 6 => hin 6 rfl (by decide) | 7 => hin 7 rfl (by decide)
    | 8 => hin 8 rfl (by decide) | 9 => hin 9 rfl (by decide) | 10 => hin 10 rfl (by decide)
    | 11 => (Function.update_self (dr main_v33) (G 11) V).symm
    | ⟨_ + 12, h⟩ => absurd h (Nat.not_lt.2 (Nat.le_add_left _ _))
  have hoff : ∀ b ∈ S \ Pipeline.arrRefs cfg4.spec, V b = Function.update V (dr main_v33) (G 11) b := fun b hb => by
    refine (Function.update_of_ne (fun e => (Finset.mem_sdiff.mp hb).2 ?_) _ _).symm
    subst e
    exact Finset.mem_map_of_mem _ (Finset.mem_image.mpr ⟨11, Finset.mem_univ _, rfl⟩)
  ihave HA := (Entails.of_eq (arrays2 V n c G _ hall)) $$ HA
  ihave H := (Entails.of_eq (StableHlo.held_congr (c.tc : Thread nD τ) hoff)) $$ H
  iexists G 11
  isplitr; · ipureintro; exact blk2 V n c (G 11) (hG 11)
  iapply (Entails.of_eq (StableHlo.held_sub_split (c.tc : Thread nD τ) hS (Function.update V (dr main_v33) (G 11))).symm)
  isplitl [HA]; · iexact HA
  iexact H

/-- The last region as a step of the main thread over its held buffers. -/
theorem mlp2 {S : Finset (DevRef τ sig)} (hS : Pipeline.arrRefs (τ := τ) cfg4.spec ⊆ S) (Q : PUnit → sProp 𝕄) :
    iprop(boundary (c.tc : Thread nD τ) ∗ held (c.tc : Thread nD τ) S V ∗ owed (F := F) c n
        ∗ levAts (K (F := F)).L (K (F := F)).lev ∗ dealt (F := F) 2 c
        ∗ (∀ G, ⌜Blk2 c (arrOf cfg4 V c) G⌝ -∗ boundary (c.tc : Thread nD τ) -∗ held (c.tc : Thread nD τ) S (Function.update V (dr main_v33) G)
            -∗ owed (F := F) c n -∗ Q ⟨⟩))
      ⊢ wp frame (wpE ((K (F := F)).defs D) 𝒱 (T c) none) Set.univ (Prog.lift (.customCall (SparseCore.inner (Pipeline.entry 2)) ())) Q := by
  iintro ⟨Hb, H, Ho, Hl, Hd, Hk⟩
  ihave H := (Entails.of_eq (StableHlo.held_sub_split (c.tc : Thread nD τ) hS V)) $$ H
  icases H with ⟨HA, H⟩
  have epost : ((seg2 V n).post c : sProp 𝕄) = iprop((rd2 V n c).arraysAt cfg4.N ∗ owed (F := F) c n) := rfl
  have epre : ((seg2 V n).pre c : sProp 𝕄) = iprop((rd2 V n c).arrays (rd2 V n c).A ∗ owed (F := F) c n) := rfl
  iapply (region_wp (F := F) (seg2 V n) c Q)
  isplitl [H Hk]
  · iintro ⟨Hb, HA⟩
    ihave HA := (Entails.of_eq epost) $$ HA
    icases HA with ⟨HA, Ho⟩
    ihave H := (leave2 V n c hS) $$ [HA H]
    · isplitl [HA]; · iexact HA
      iexact H
    icases H with ⟨%G, %hG, H⟩
    iapply Hk $$ %G %hG Hb H Ho
  isplitl [Hb]; · iexact Hb
  isplitl [HA Ho]
  · iapply (Entails.of_eq epre.symm)
    isplitl [HA]
    · iapply (Entails.of_eq (arrays2 V n c (rd2 V n c).A V fun _ => rfl).symm) $$ HA
    iexact Ho
  isplitl [Hl]; · iexact Hl
  iexact Hd

end

end Cert.Proof.Mov

end
-- ==== Proof.TileMovie.lean ====
/-
  The movie call's task on one vector subcore: fetch the task's 512 list entries, then move 512 table rows in eight chunks of
  64 through two row buffers, the gather of one chunk in flight while the other buffer is written out.
-/
module

public import proofs.«01_k».proof.Proof.Base

@[expose] public section

noncomputable section

namespace Cert.Proof.Mov

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

namespace Movie

abbrev tLoc (d : Dev nD) : Loc nD τ sig := (SparseCore.T d).loc main_v4_0
abbrev iLoc (d : Dev nD) : Loc nD τ sig := (SparseCore.T d).loc main_v20
abbrev oLoc (d : Dev nD) : Loc nD τ sig := (SparseCore.T d).loc main_v29

abbrev tV : Memref sig .scVector .hbm S32768x128 .f32 := Memref.whole main_v4_0_scv
abbrev iV : Memref sig .scVector .hbm S16384 .i32 := Memref.whole main_v20_scv
abbrev oV : Memref sig .scVector .hbm S16384x128 .f32 := Memref.whole main_v29_scv
abbrev sV : Memref sig .scVector .vmem S512 .i32 := Memref.whole cc2_scratch0
abbrev aV : Memref sig .scVector .vmem S64x128 .f32 := Memref.whole cc2_scratch1
abbrev bV : Memref sig .scVector .vmem S64x128 .f32 := Memref.whole cc2_scratch2

variable (d : Dev nD) (L : grid2.Coords)

abbrev cV (L : grid2.Coords) : Fin τ.nSC := (L 0).castLE hcore2
abbrev jV (L : grid2.Coords) : Fin τ.nSub := (L 1).castLE hsub2
abbrev thr : Thread nD τ := V d (cV L) (jV L)
omit [FloatOps F] in
theorem bound0 : grid2.bound 0 = 2 := rfl
omit [FloatOps F] in
theorem bound1 : grid2.bound 1 = 16 := rfl
/-- The task's number: `2 · subcore + core`. -/
abbrev wid (L : grid2.Coords) : Fin 32 := ⟨2 * (L 1).val + (L 0).val, by have h0 : (L 0).val < 2 := (L 0).isLt; have h1 : (L 1).val < 16 := (L 1).isLt; omega⟩

abbrev iRowK : Memref sig .scVector .hbm S512 .i32 := iV.slice (Rect.unit (s := S16384) (k2_off1 L) S512.size (k2_off1_inb L)) (fun _ => rfl)
abbrev oRowK (r : Fin 8) : Memref sig .scVector .hbm S64x128 .f32 :=
  oV.slice (Rect.unit (s := S16384x128) (k2_off2 L (BitVec.ofNat 32 (64 * r.val))) S64x128.size (k2_off2_inb L r)) (fun _ => rfl)
abbrev tAllK : Memref sig .scVector .hbm S32768x128 .f32 := tV.slice (Rect.unit (s := S32768x128) ![0, 0] S32768x128.size inb_S32768x128_S32768x128_0_0) (fun _ => rfl)
omit [FloatOps F] in
theorem sinb (r : Fin 8) : ∀ a, (![64 * r.val] : Fin 1 → ℕ) a + S64.size a ≤ S512.size a := by revert r; decide
abbrev sRowK (r : Fin 8) : Memref sig .scVector .vmem S64 .i32 := sV.slice (Rect.unit (s := S512) ![64 * r.val] S64.size (sinb r)) (fun _ => rfl)

omit [FloatOps F] in
theorem set_iRowK : (iRowK L).view.set = (lRect (wid L)).set := by
  show ((View.whole (main_v20_scv : Ref sig .scVector)).slice (Rect.unit (s := S16384) (k2_off1 L) S512.size (k2_off1_inb L))).set = _
  rw [View.set_slice]
  refine Finset.map_refl.trans ?_
  rw [lUnit_eq (wid L) _ (by rw [k2_off1_eq]; congr 1; simp [wid]; omega)]
omit [FloatOps F] in
theorem set_oRowK (r : Fin 8) : (oRowK L r).view.set = (oRect (chunk (wid L) r)).set := by
  show ((View.whole (main_v29_scv : Ref sig .scVector)).slice (Rect.unit (s := S16384x128) (k2_off2 L (BitVec.ofNat 32 (64 * r.val))) S64x128.size (k2_off2_inb L r))).set = _
  rw [View.set_slice]
  refine Finset.map_refl.trans ?_
  rw [oUnit_eq (chunk (wid L) r) _ (by rw [k2_off2_eq]; congr 1; simp [wid]; omega)]
omit [FloatOps F] in
theorem set_sRowK (r : Fin 8) : (sRowK r).view.set = (sRect r).set := by
  show ((View.whole (cc2_scratch0 : Ref sig .scVector)).slice (Rect.unit (s := S512) ![64 * r.val] S64.size (sinb r))).set = _
  rw [View.set_slice]
  refine Finset.map_refl.trans ?_
  rw [sUnit_eq r _ rfl]
omit [FloatOps F] in
theorem set_tAllK : tAllK.view.set = Finset.univ := by
  show ((View.whole (main_v4_0_scv : Ref sig .scVector)).slice (Rect.unit (s := S32768x128) ![0, 0] S32768x128.size inb_S32768x128_S32768x128_0_0)).set = _
  rw [View.set_slice]
  refine Finset.map_refl.trans ?_
  refine Finset.eq_univ_iff_forall.mpr fun x => Rect.mem_set_unit.mpr fun a => ?_
  match a with
  | 0 => exact ⟨Nat.zero_le _, (Nat.zero_add _).symm ▸ (x 0).isLt⟩
  | 1 => exact ⟨Nat.zero_le _, (Nat.zero_add _).symm ▸ (x 1).isLt⟩

/-- The task's eleven counters: the list's, the two buffers', the eight write-outs'. -/
abbrev sems : Fin 11 → SemLoc sig := ![.dma cc2_scratch3.sem, .dma cc2_scratch4.sem, .dma cc2_scratch5.sem, .dma cc2_scoped0.sem, .dma cc2_scoped1.sem,
  .dma cc2_scoped2.sem, .dma cc2_scoped3.sem, .dma cc2_scoped4.sem, .dma cc2_scoped5.sem, .dma cc2_scoped6.sem, .dma cc2_scoped7.sem]
omit [FloatOps F] in
theorem sems_inj : Function.Injective sems := by decide
omit [FloatOps F] in
theorem sems_scoped : ∀ k, (sems k).isScoped .scVector = true := by decide

omit [FloatOps F] in
/-- The three scratch buffers are among the subcore's own: they are them, at some contents, and the rest. -/
theorem ownBufs_V :
    (ownBufs (thr d L) : sProp 𝕄)
      = iprop((∃ f, (thr d L).loc cc2_scratch0 ↦{fullShare} f) ∗ (∃ f, (thr d L).loc cc2_scratch1 ↦{fullShare} f) ∗ (∃ f, (thr d L).loc cc2_scratch2 ↦{fullShare} f)
          ∗ bigSep ((((ownRefs (τ := τ) (.scVector (cV L) (jV L))).erase ((Proc.scVector (cV L) (jV L)).devRef cc2_scratch0)).erase
              ((Proc.scVector (cV L) (jV L)).devRef cc2_scratch1)).erase ((Proc.scVector (cV L) (jV L)).devRef cc2_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
    SparseCore.Cfg.mem_ownRefs_of_owner (p := Proc.scVector (cV L) (jV L)) (b := (Proc.scVector (cV L) (jV L)).devRef cc2_scratch2) rfl⟩⟩)]

omit [FloatOps F] in
/-- A task's own list buffer, whole, is its eight chunks. -/
theorem list_chunks (f : Buf (Elt F) ((thr d L).loc cc2_scratch0)) :
    ((thr d L).loc cc2_scratch0 ↦{fullShare} f : sProp 𝕄) = bigSep Finset.univ fun r : Fin 8 => (sRowK r).view.loc (thr d L) ↦[(sRowK r).view.set]{fullShare} f := by
  rw [← pointsTo_biUnion Finset.univ (ℓ := (thr d L).loc cc2_scratch0) (fun r => (sRowK r).view.set)
    (fun i _ j _ h => by rw [set_sRowK, set_sRowK]; exact sRect_disjoint i (Finset.mem_univ _) j (Finset.mem_univ _) h)]
  rw [show (Finset.univ.biUnion fun r : Fin 8 => (sRowK r).view.set) = Finset.univ from
    (Finset.biUnion_congr rfl fun r _ => set_sRowK r).trans sRect_cover]

abbrev sK (o : ℕ) (h : ∀ a, (![o] : Fin 1 → ℕ) a + S64.size a ≤ S512.size a) : Memref sig .scVector .vmem S64 .i32 :=
  sV.slice (Rect.unit (s := S512) ![o] S64.size h) (fun _ => rfl)
abbrev oK (c : BitVec 32) (h : ∀ a, (k2_off2 L c) a + S64x128.size a ≤ S16384x128.size a) : Memref sig .scVector .hbm S64x128 .f32 :=
  oV.slice (Rect.unit (s := S16384x128) (k2_off2 L c) S64x128.size h) (fun _ => rfl)

/-- A chunk of the list buffer, as the program slices it. -/
abbrev sPts (f : Buf (Elt F) ((thr d L).loc cc2_scratch0)) (o : ℕ) (h : ∀ a, (![o] : Fin 1 → ℕ) a + S64.size a ≤ S512.size a) : sProp 𝕄 :=
  (sK o h).view.loc (thr d L) ↦[(sK o h).view.set]{fullShare} f
/-- A chunk of the result, as the program slices it. -/
abbrev oPts (f : Buf (Elt F) (oLoc d)) (c : BitVec 32) (h : ∀ a, (k2_off2 L c) a + S64x128.size a ≤ S16384x128.size a) : sProp 𝕄 :=
  (oK L c h).view.loc (thr d L) ↦[(oK L c h).view.set]{fullShare} f

omit [FloatOps F] in
/-- The list buffer as the eight slices the program makes of it. -/
theorem list_slices (f : Buf (Elt F) ((thr d L).loc cc2_scratch0)) :
    ((thr d L).loc cc2_scratch0 ↦{fullShare} f : sProp 𝕄)
      = iprop(sPts d L f 0 inb_S512_S64_0 ∗ sPts d L f 64 inb_S512_S64_64 ∗ sPts d L f 128 inb_S512_S64_128 ∗ sPts d L f 192 inb_S512_S64_192
        ∗ sPts d L f 256 inb_S512_S64_256 ∗ sPts d L f 320 inb_S512_S64_320 ∗ sPts d L f 384 inb_S512_S64_384 ∗ sPts d L f 448 inb_S512_S64_448) := by
  rw [list_chunks, bigSep_eight]; rfl

omit [FloatOps F] in
theorem out_slice (r : Fin 8) (f : Buf (Elt F) (oLoc d)) :
    (oLoc d ↦[(oRect (chunk (wid L) r)).set]{fullShare} f : sProp 𝕄) = (oRowK L r).view.loc (thr d L) ↦[(oRowK L r).view.set]{fullShare} f := by
  rw [set_oRowK]

omit [FloatOps F] in
/-- The task's eight chunks of the result as the slices the program makes. -/
theorem out_slices (Φ : Fin 8 → Buf (Elt F) (oLoc d) → Prop) :
    (bigSep Finset.univ fun r : Fin 8 => (iprop(∃ f, ⌜Φ r f⌝ ∗ oLoc d ↦[(oRect (chunk (wid L) r)).set]{fullShare} f) : sProp 𝕄))
      = iprop((∃ f, ⌜Φ 0 f⌝ ∗ oPts d L f 0#32 (k2_off2_inb L 0)) ∗ (∃ f, ⌜Φ 1 f⌝ ∗ oPts d L f 64#32 (k2_off2_inb L 1))
        ∗ (∃ f, ⌜Φ 2 f⌝ ∗ oPts d L f 128#32 (k2_off2_inb L 2)) ∗ (∃ f, ⌜Φ 3 f⌝ ∗ oPts d L f 192#32 (k2_off2_inb L 3))
        ∗ (∃ f, ⌜Φ 4 f⌝ ∗ oPts d L f 256#32 (k2_off2_inb L 4)) ∗ (∃ f, ⌜Φ 5 f⌝ ∗ oPts d L f 320#32 (k2_off2_inb L 5))
        ∗ (∃ f, ⌜Φ 6 f⌝ ∗ oPts d L f 384#32 (k2_off2_inb L 6)) ∗ (∃ f, ⌜Φ 7 f⌝ ∗ oPts d L f 448#32 (k2_off2_inb L 7))) := by
  simp only [out_slice]
  rw [bigSep_eight]; rfl

omit [FloatOps F] in
/-- The task's counters at zero, named as the program names them. -/
theorem sems_eq : (bigSep Finset.univ fun k => (semVal (thr d L, sems k) 0 : sProp 𝕄))
    = iprop(semVal (thr d L, SemLoc.dma cc2_scratch3.sem) 0 ∗ semVal (thr d L, SemLoc.dma cc2_scratch4.sem) 0 ∗ semVal (thr d L, SemLoc.dma cc2_scratch5.sem) 0
      ∗ semVal (thr d L, SemLoc.dma cc2_scoped0.sem) 0 ∗ semVal (thr d L, SemLoc.dma cc2_scoped1.sem) 0 ∗ semVal (thr d L, SemLoc.dma cc2_scoped2.sem) 0
      ∗ semVal (thr d L, SemLoc.dma cc2_scoped3.sem) 0 ∗ semVal (thr d L, SemLoc.dma cc2_scoped4.sem) 0 ∗ semVal (thr d L, SemLoc.dma cc2_scoped5.sem) 0
      ∗ semVal (thr d L, SemLoc.dma cc2_scoped6.sem) 0 ∗ semVal (thr d L, SemLoc.dma cc2_scoped7.sem) 0) := by
  rw [bigSep_eleven]; rfl

/-- The table row a list entry names. -/
def row (g : S16384.Idx → BitVec 32) (x : S16384x128.Idx) : S32768x128.Idx :=
  fun | 0 => ⟨(g (ValueIdx.ix1 (x 0))).toNat % 32768, Nat.mod_lt _ (by decide)⟩ | 1 => x 1 | ⟨_ + 2, h⟩ => absurd h (Nat.not_lt.2 (Nat.le_add_left _ _))

omit [FloatOps F] in
/-- A chunk of the result written with a payload that is, at each of its places, the table row the list names there, ends so. -/
theorem chunk_value (r : Fin 8) (tb : Buf (Elt F) (tLoc d)) (g : Buf (Elt F) (iLoc d)) (f : Buf (Elt F) (oLoc d)) (p : S64x128.Idx → Elt F .f32)
    (hp : ∀ y, p y = tb (row g ((oRowK L r).view.emb y))) :
    ∀ x ∈ (oRect (chunk (wid L) r)).set, (oRowK L r).view.writes (Elt F) f [⟨Rect.whole S64x128, p⟩] x = tb (row g x) := by
  intro x hx
  rw [← set_oRowK] at hx
  obtain ⟨y, -, rfl⟩ := Finset.mem_map.mp hx
  have h := View.read_writes_cons_emb (Val := Elt F) (oRowK L r).view f (Rect.whole S64x128) p [] y
  rw [Rect.emb_whole_apply] at h
  exact h.trans (hp y)

omit [FloatOps F] in
/-- What a gather brings: at each place of the chunk, the table row the list names there. -/
theorem gather_value (r : Fin 8) (tb : Buf (Elt F) (tLoc d)) (g : Buf (Elt F) (iLoc d)) (ls : S512.Idx → BitVec 32)
    (hls : ∀ z, ls z = g ((iRowK L).view.emb z)) (hn) (hin) (y : S64x128.Idx) :
    SparseCore.gatherPayload gathers_S32768x128_S64x128 (tAllK.view.read (Elt F) tb)
        (SparseCore.rows (F := F) (o := S64x128.size gathers_S32768x128_S64x128.axis') (z := S32768x128.size gathers_S32768x128_S64x128.axis) ((sRowK r).view.read (Elt F) ls) hn hin) y
      = tb (row g ((oRowK L r).view.emb y)) := by
  show tb (tAllK.view.emb _) = _
  congr 1
  funext b
  apply Fin.ext
  match b with
  | 0 =>
    have hlt := hin (S64.rowMajor.symm (Fin.cast hn.symm (y 0)))
    have hr := Shape.Gathers.idx_axis gathers_S32768x128_S64x128 (SparseCore.rows (F := F) ((sRowK r).view.read (Elt F) ls) hn hin) y
    show 0 + 1 * (gathers_S32768x128_S64x128.idx _ y gathers_S32768x128_S64x128.axis).val = _
    rw [hr]
    have hz : ((S64.rowMajor.symm (Fin.cast hn.symm (y 0))) 0).val = (y 0).val := by
      rw [← Shape.rowMajor_val_one, Equiv.apply_symm_apply]; rfl
    have hl := hls ((sRowK r).view.emb (S64.rowMajor.symm (Fin.cast hn.symm (y 0))))
    have hi : (iRowK L).view.emb ((sRowK r).view.emb (S64.rowMajor.symm (Fin.cast hn.symm (y 0)))) = ValueIdx.ix1 ((oRowK L r).view.emb y 0) := by
      refine funext fun (a : Fin 1) => ?_
      obtain rfl : a = 0 := Subsingleton.elim _ _
      apply Fin.ext
      show k2_off1 L 0 + 1 * (64 * r.val + 1 * ((S64.rowMajor.symm (Fin.cast hn.symm (y 0))) 0).val)
        = k2_off2 L (BitVec.ofNat 32 (64 * r.val)) 0 + 1 * (y 0).val
      rw [hz, k2_off1_eq, k2_off2_eq]
      simp
      omega
    show 0 + 1 * (ls ((sRowK r).view.emb (S64.rowMajor.symm (Fin.cast hn.symm (y 0))))).toNat = (g (ValueIdx.ix1 ((oRowK L r).view.emb y 0))).toNat % 32768
    rw [hl, hi]
    rw [show (sRowK r).view.read (Elt F) ls (S64.rowMajor.symm (Fin.cast hn.symm (y 0))) = ls ((sRowK r).view.emb (S64.rowMajor.symm (Fin.cast hn.symm (y 0)))) from rfl, hl, hi] at hlt
    exact (by omega : ∀ n : ℕ, n < 32768 → 0 + 1 * n = n % 32768) _ hlt
  | 1 =>
    show 0 + 1 * (gathers_S32768x128_S64x128.idx _ y 1).val = 0 + 1 * (y 1).val
    rw [Shape.Gathers.idx_of_ne _ _ _ _ (by decide)]
    rfl

omit [FloatOps F] in
/-- A buffer's reading after its last write, of the whole of it. -/
theorem read_last {s : Shape} {e : EltTy} {κ : Kind} {sp : Space} (v : View sig κ sp s e) (f) (p : s.Idx → Elt F e) (l) :
    ReadAs.same.apply (v.read (Elt F) (v.writes (Elt F) f (⟨Rect.whole s, p⟩ :: l))) = p := by
  funext y
  have h := View.read_writes_cons_emb (Val := Elt F) v f (Rect.whole s) p l y
  rw [Rect.emb_whole_apply] at h
  exact h

set_option maxHeartbeats 4000000 in
/-- The task on vector subcore `(L 0, L 1)` of device `d`, over a share of the table at any contents `tb`, its own list entries `g`
    (each a row of the table) and its eight chunks of the result: each chunk ends holding the table rows its list entries name. -/
theorem tile_body (hF : (K (F := F)).Facts) (q : PosShare TreeShare) (tb : Buf (Elt F) (tLoc d)) (g : Buf (Elt F) (iLoc d))
    (hg : ∀ x : S16384.Idx, (g x : BitVec 32).toNat < 32768)
    (O : CellTallies nD τ sig (HIx 2)) (W : Waits sig (HIx 2)) (hO : ∀ g, O g none = 0) :
    (iprop(levAts (K (F := F)).L (K (F := F)).lev ∗ emp
        ∗ ((tLoc d ↦{q} tb) ∗ (iLoc d ↦[(lRect (wid L)).set]{fullShare} g)
            ∗ bigSep Finset.univ fun r : Fin 8 => iprop(∃ f, ⌜True⌝ ∗ oLoc d ↦[(oRect (chunk (wid L) r)).set]{fullShare} f))
        ∗ scopedBufs (thr d L) ∗ scopedSems0 (thr d L) ∗ owes (thr d L) O W) : sProp 𝕄)
      ⊢ wp frame (wpE (defs₀ (F := F)) 𝒱₀ (thr d L) none) Set.univ
          (cc2_gather_movie L tV (Memref.isWhole_whole _) iV (Memref.isWhole_whole _) oV (Memref.isWhole_whole _)
            sV (Memref.isWhole_whole _) aV (Memref.isWhole_whole _) bV (Memref.isWhole_whole _) cc2_scratch3 cc2_scratch4 cc2_scratch5
            cc2_scoped0 cc2_scoped1 cc2_scoped2 cc2_scoped3 cc2_scoped4 cc2_scoped5 cc2_scoped6 cc2_scoped7)
          fun _ => iprop((bigSep Finset.univ fun r : Fin 8 => iprop(∃ f, ⌜∀ x ∈ (oRect (chunk (wid L) r)).set, f x = tb (row g x)⌝
              ∗ oLoc d ↦[(oRect (chunk (wid L) r)).set]{fullShare} f))
            ∗ scopedBufs (thr d L) ∗ scopedSems0 (thr d L)
            ∗ ∃ W', ⌜∀ p ∈ W', p ∈ W ∨ p.2 = none⌝ ∗ owes (thr d L) O W') := by
  simp only [cc2_gather_movie_eq_skeleton]; unfold cc2_gather_movie_skel
  rw [(K (F := F)).scopedBufs_V hF d (cV L) (jV L), SparseCore.Cfg.scopedSems0_V (Val := Elt F) d (cV L) (jV L),
    ownSems0_eleven (F := F) (thr d L) sems sems_inj sems_scoped, sems_eq, ownBufs_V, out_slices, out_slices]
  iintro ⟨#Hlv, -, ⟨Ht, Hi, ⟨%f0, -, Ho0⟩, ⟨%f1, -, Ho1⟩, ⟨%f2, -, Ho2⟩, ⟨%f3, -, Ho3⟩, ⟨%f4, -, Ho4⟩, ⟨%f5, -, Ho5⟩, ⟨%f6, -, Ho6⟩, ⟨%f7, -, Ho7⟩⟩,
    ⟨⟨%fs, Hs⟩, ⟨%fa, Ha⟩, ⟨%fb, Hb⟩, Hbufs⟩, ⟨⟨S0, S1, S2, S3, S4, S5, S6, S7, S8, S9, S10⟩, Hsems⟩, HO⟩
  ihave Hmw := (show levAts (K (F := F)).L (K (F := F)).lev ⊢ Transfers.MayWaits (thr d L) (default : HIx 2) O from
    (K (F := F)).mayWaits_none (thr := thr d L) hO) $$ Hlv
  ihave Hi := (Entails.of_eq (show (iLoc d ↦[(lRect (wid L)).set]{fullShare} g : sProp 𝕄) = (iRowK L).view.loc (thr d L) ↦[(iRowK L).view.set]{fullShare} g by rw [set_iRowK])) $$ Hi
  ihave Hs := (Entails.of_eq (show ((thr d L).loc cc2_scratch0 ↦{fullShare} fs : sProp 𝕄) = sV.view.loc (thr d L) ↦{fullShare} fs from rfl)) $$ Hs
  ihave Ha := (Entails.of_eq (show ((thr d L).loc cc2_scratch1 ↦{fullShare} fa : sProp 𝕄) = aV.view.loc (thr d L) ↦{fullShare} fa from rfl)) $$ Ha
  ihave Hb := (Entails.of_eq (show ((thr d L).loc cc2_scratch2 ↦{fullShare} fb : sProp 𝕄) = bV.view.loc (thr d L) ↦{fullShare} fb from rfl)) $$ Hb
  sl_exec
  obtain ⟨ls, hls⟩ : ∃ ls : S512.Idx → Elt F .i32, ls = View.write (Elt F) sV.view fs ((iRowK L).view.read (Elt F) g) Finset.univ := ⟨_, rfl⟩
  ihave Hs := (Entails.of_eq (show (sV.view.loc (thr d L) ↦{fullShare} View.write (Elt F) sV.view fs (tile_body.sl.dma0 d L g) Finset.univ : sProp 𝕄) = (thr d L).loc cc2_scratch0 ↦{fullShare} ls by rw [hls]; rfl)) $$ Hs
  ihave Hs := (Entails.of_eq (list_slices (F := F) d L ls)) $$ Hs
  icases Hs with ⟨Hs0, Hs1, Hs2, Hs3, Hs4, Hs5, Hs6, Hs7⟩
  have hin : ∀ (o : ℕ) (h : ∀ a, (![o] : Fin 1 → ℕ) a + S64.size a ≤ S512.size a) (x : S64.Idx), ((sK o h).view.read (Elt F) ls x : BitVec 32).toNat < S32768x128.size gathers_S32768x128_S64x128.axis := by
    intro o h x
    rw [hls, View.write_whole_univ]
    exact hg _
  ihave Ht := (Entails.of_eq (show (tLoc d ↦{q} tb : sProp 𝕄) = tAllK.view.loc (thr d L) ↦[tAllK.view.set]{q} tb by rw [set_tAllK])) $$ Ht
  ihave Ht := (pointsTo_share (PosShare.mem_left_op_right q)).1 $$ Ht
  icases Ht with ⟨Hta, Htb⟩
  sl_exec
  sl_step
  have hlz : ∀ z, ls z = g ((iRowK L).view.emb z) := fun z => by rw [hls, View.write_whole_univ]; rfl
  isplitl [Ho0 Ho1 Ho2 Ho3 Ho4 Ho5 Ho6 Ho7]
  · isplitl [Ho0]
    · iexists _; isplitr
      swap; · iexact Ho0
      ipureintro
      exact chunk_value d L 0 tb g _ _ fun y => by
        unfold tile_body.sl.dma0_1; rw [read_last]; exact gather_value d L 0 tb g ls hlz _ _ y
    isplitl [Ho1]
    · iexists _; isplitr
      swap; · iexact Ho1
      ipureintro
      exact chunk_value d L 1 tb g _ _ fun y => by
        unfold tile_body.sl.dma0_2; rw [read_last]; exact gather_value d L 1 tb g ls hlz _ _ y
    isplitl [Ho2]
    · iexists _; isplitr
      swap; · iexact Ho2
      ipureintro
      exact chunk_value d L 2 tb g _ _ fun y => by
        unfold tile_body.sl.dma0_3; rw [read_last]; exact gather_value d L 2 tb g ls hlz _ _ y
    isplitl [Ho3]
    · iexists _; isplitr
      swap; · iexact Ho3
      ipureintro
      exact chunk_value d L 3 tb g _ _ fun y => by
        unfold tile_body.sl.dma0_4; rw [read_last]; exact gather_value d L 3 tb g ls hlz _ _ y
    isplitl [Ho4]
    · iexists _; isplitr
      swap; · iexact Ho4
      ipureintro
      exact chunk_value d L 4 tb g _ _ fun y => by
        unfold tile_body.sl.dma0_5; rw [read_last]; exact gather_value d L 4 tb g ls hlz _ _ y
    isplitl [Ho5]
    · iexists _; isplitr
      swap; · iexact Ho5
      ipureintro
      exact chunk_value d L 5 tb g _ _ fun y => by
        unfold tile_body.sl.dma0_6; rw [read_last]; exact gather_value d L 5 tb g ls hlz _ _ y
    isplitl [Ho6]
    · iexists _; isplitr
      swap; · iexact Ho6
      ipureintro
      exact chunk_value d L 6 tb g _ _ fun y => by
        unfold tile_body.sl.dma0_7; rw [read_last]; exact gather_value d L 6 tb g ls hlz _ _ y
    iexists _; isplitr
    swap; · iexact Ho7
    ipureintro
    exact chunk_value d L 7 tb g _ _ fun y => by
      unfold tile_body.sl.dma0_8; rw [read_last]; exact gather_value d L 7 tb g ls hlz _ _ y
  isplitl [Hs0 Hs1 Hs2 Hs3 Hs4 Hs5 Hs6 Hs7 Ha Hb Hbufs]
  · isplitl [Hs0 Hs1 Hs2 Hs3 Hs4 Hs5 Hs6 Hs7]
    · iexists ls
      rw [list_slices]
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hs7
    isplitl [Ha]; · iexists _; iexact Ha
    isplitl [Hb]; · iexists _; iexact Hb
    iexact Hbufs
  isplitl [S0 S1 S2 S3 S4 S5 S6 S7 S8 S9 S10 Hsems]
  · isplitl [S0 S1 S2 S3 S4 S5 S6 S7 S8 S9 S10]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    iexact Hsems
  iexists _; isplitr
  swap; · iexact HO
  ipureintro
  iterate 17 refine rec_insert ?_
  exact fun p hp => .inl hp

end Movie

end Cert.Proof.Mov

end
-- ==== Proof.TileUser.lean ====
/-
  The user call's task on one vector subcore: fetch the task's 512 list entries, then move 512 table rows in eight chunks of
  64 through two row buffers, the gather of one chunk in flight while the other buffer is written out.
-/
module

public import proofs.«01_k».proof.Proof.Base

@[expose] public section

noncomputable section

namespace Cert.Proof.Mov

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

namespace User

abbrev tLoc (d : Dev nD) : Loc nD τ sig := (SparseCore.T d).loc main_v6
abbrev iLoc (d : Dev nD) : Loc nD τ sig := (SparseCore.T d).loc main_v13
abbrev oLoc (d : Dev nD) : Loc nD τ sig := (SparseCore.T d).loc main_v30

abbrev tV : Memref sig .scVector .hbm S262144x128 .f32 := Memref.whole main_v6_scv
abbrev iV : Memref sig .scVector .hbm S16384 .i32 := Memref.whole main_v13_scv
abbrev oV : Memref sig .scVector .hbm S16384x128 .f32 := Memref.whole main_v30_scv
abbrev sV : Memref sig .scVector .vmem S512 .i32 := Memref.whole cc3_scratch0
abbrev aV : Memref sig .scVector .vmem S64x128 .f32 := Memref.whole cc3_scratch1
abbrev bV : Memref sig .scVector .vmem S64x128 .f32 := Memref.whole cc3_scratch2

variable (d : Dev nD) (L : grid3.Coords)

abbrev cV (L : grid3.Coords) : Fin τ.nSC := (L 0).castLE hcore3
abbrev jV (L : grid3.Coords) : Fin τ.nSub := (L 1).castLE hsub3
abbrev thr : Thread nD τ := V d (cV L) (jV L)
omit [FloatOps F] in
theorem bound0 : grid3.bound 0 = 2 := rfl
omit [FloatOps F] in
theorem bound1 : grid3.bound 1 = 16 := rfl
/-- The task's number: `2 · subcore + core`. -/
abbrev wid (L : grid3.Coords) : Fin 32 := ⟨2 * (L 1).val + (L 0).val, by have h0 : (L 0).val < 2 := (L 0).isLt; have h1 : (L 1).val < 16 := (L 1).isLt; omega⟩

abbrev iRowK : Memref sig .scVector .hbm S512 .i32 := iV.slice (Rect.unit (s := S16384) (k3_off1 L) S512.size (k3_off1_inb L)) (fun _ => rfl)
abbrev oRowK (r : Fin 8) : Memref sig .scVector .hbm S64x128 .f32 :=
  oV.slice (Rect.unit (s := S16384x128) (k3_off2 L (BitVec.ofNat 32 (64 * r.val))) S64x128.size (k3_off2_inb L r)) (fun _ => rfl)
abbrev tAllK : Memref sig .scVector .hbm S262144x128 .f32 := tV.slice (Rect.unit (s := S262144x128) ![0, 0] S262144x128.size inb_S262144x128_S262144x128_0_0) (fun _ => rfl)
omit [FloatOps F] in
theorem sinb (r : Fin 8) : ∀ a, (![64 * r.val] : Fin 1 → ℕ) a + S64.size a ≤ S512.size a := by revert r; decide
abbrev sRowK (r : Fin 8) : Memref sig .scVector .vmem S64 .i32 := sV.slice (Rect.unit (s := S512) ![64 * r.val] S64.size (sinb r)) (fun _ => rfl)

omit [FloatOps F] in
theorem set_iRowK : (iRowK L).view.set = (lRect (wid L)).set := by
  show ((View.whole (main_v13_scv : Ref sig .scVector)).slice (Rect.unit (s := S16384) (k3_off1 L) S512.size (k3_off1_inb L))).set = _
  rw [View.set_slice]
  refine Finset.map_refl.trans ?_
  rw [lUnit_eq (wid L) _ (by rw [k3_off1_eq]; congr 1; simp [wid]; omega)]
omit [FloatOps F] in
theorem set_oRowK (r : Fin 8) : (oRowK L r).view.set = (oRect (chunk (wid L) r)).set := by
  show ((View.whole (main_v30_scv : Ref sig .scVector)).slice (Rect.unit (s := S16384x128) (k3_off2 L (BitVec.ofNat 32 (64 * r.val))) S64x128.size (k3_off2_inb L r))).set = _
  rw [View.set_slice]
  refine Finset.map_refl.trans ?_
  rw [oUnit_eq (chunk (wid L) r) _ (by rw [k3_off2_eq]; congr 1; simp [wid]; omega)]
omit [FloatOps F] in
theorem set_sRowK (r : Fin 8) : (sRowK r).view.set = (sRect r).set := by
  show ((View.whole (cc3_scratch0 : Ref sig .scVector)).slice (Rect.unit (s := S512) ![64 * r.val] S64.size (sinb r))).set = _
  rw [View.set_slice]
  refine Finset.map_refl.trans ?_
  rw [sUnit_eq r _ rfl]
omit [FloatOps F] in
theorem set_tAllK : tAllK.view.set = Finset.univ := by
  show ((View.whole (main_v6_scv : Ref sig .scVector)).slice (Rect.unit (s := S262144x128) ![0, 0] S262144x128.size inb_S262144x128_S262144x128_0_0)).set = _
  rw [View.set_slice]
  refine Finset.map_refl.trans ?_
  refine Finset.eq_univ_iff_forall.mpr fun x => Rect.mem_set_unit.mpr fun a => ?_
  match a with
  | 0 => exact ⟨Nat.zero_le _, (Nat.zero_add _).symm ▸ (x 0).isLt⟩
  | 1 => exact ⟨Nat.zero_le _, (Nat.zero_add _).symm ▸ (x 1).isLt⟩

/-- The task's eleven counters: the list's, the two buffers', the eight write-outs'. -/
abbrev sems : Fin 11 → SemLoc sig := ![.dma cc3_scratch3.sem, .dma cc3_scratch4.sem, .dma cc3_scratch5.sem, .dma cc3_scoped0.sem, .dma cc3_scoped1.sem,
  .dma cc3_scoped2.sem, .dma cc3_scoped3.sem, .dma cc3_scoped4.sem, .dma cc3_scoped5.sem, .dma cc3_scoped6.sem, .dma cc3_scoped7.sem]
omit [FloatOps F] in
theorem sems_inj : Function.Injective sems := by decide
omit [FloatOps F] in
theorem sems_scoped : ∀ k, (sems k).isScoped .scVector = true := by decide

omit [FloatOps F] in
/-- The three scratch buffers are among the subcore's own: they are them, at some contents, and the rest. -/
theorem ownBufs_V :
    (ownBufs (thr d L) : sProp 𝕄)
      = iprop((∃ f, (thr d L).loc cc3_scratch0 ↦{fullShare} f) ∗ (∃ f, (thr d L).loc cc3_scratch1 ↦{fullShare} f) ∗ (∃ f, (thr d L).loc cc3_scratch2 ↦{fullShare} f)
          ∗ bigSep ((((ownRefs (τ := τ) (.scVector (cV L) (jV L))).erase ((Proc.scVector (cV L) (jV L)).devRef cc3_scratch0)).erase
              ((Proc.scVector (cV L) (jV L)).devRef cc3_scratch1)).erase ((Proc.scVector (cV L) (jV L)).devRef cc3_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cV L) (jV L)) (b := (Proc.scVector (cV L) (jV L)).devRef cc3_scratch1) rfl⟩),
    SparseCore.bigSep_erase' (Finset.mem_erase.mpr ⟨fun e => absurd (Proc.devRef_injective _ e) (show (cc3_scratch2 : Ref sig .scVector) ≠ cc3_scratch1 by decide),
      Finset.mem_erase.mpr ⟨fun e => absurd (Proc.devRef_injective _ e) (show (cc3_scratch2 : Ref sig .scVector) ≠ cc3_scratch0 by decide),
    SparseCore.Cfg.mem_ownRefs_of_owner (p := Proc.scVector (cV L) (jV L)) (b := (Proc.scVector (cV L) (jV L)).devRef cc3_scratch2) rfl⟩⟩)]

omit [FloatOps F] in
/-- A task's own list buffer, whole, is its eight chunks. -/
theorem list_chunks (f : Buf (Elt F) ((thr d L).loc cc3_scratch0)) :
    ((thr d L).loc cc3_scratch0 ↦{fullShare} f : sProp 𝕄) = bigSep Finset.univ fun r : Fin 8 => (sRowK r).view.loc (thr d L) ↦[(sRowK r).view.set]{fullShare} f := by
  rw [← pointsTo_biUnion Finset.univ (ℓ := (thr d L).loc cc3_scratch0) (fun r => (sRowK r).view.set)
    (fun i _ j _ h => by rw [set_sRowK, set_sRowK]; exact sRect_disjoint i (Finset.mem_univ _) j (Finset.mem_univ _) h)]
  rw [show (Finset.univ.biUnion fun r : Fin 8 => (sRowK r).view.set) = Finset.univ from
    (Finset.biUnion_congr rfl fun r _ => set_sRowK r).trans sRect_cover]

abbrev sK (o : ℕ) (h : ∀ a, (![o] : Fin 1 → ℕ) a + S64.size a ≤ S512.size a) : Memref sig .scVector .vmem S64 .i32 :=
  sV.slice (Rect.unit (s := S512) ![o] S64.size h) (fun _ => rfl)
abbrev oK (c : BitVec 32) (h : ∀ a, (k3_off2 L c) a + S64x128.size a ≤ S16384x128.size a) : Memref sig .scVector .hbm S64x128 .f32 :=
  oV.slice (Rect.unit (s := S16384x128) (k3_off2 L c) S64x128.size h) (fun _ => rfl)

/-- A chunk of the list buffer, as the program slices it. -/
abbrev sPts (f : Buf (Elt F) ((thr d L).loc cc3_scratch0)) (o : ℕ) (h : ∀ a, (![o] : Fin 1 → ℕ) a + S64.size a ≤ S512.size a) : sProp 𝕄 :=
  (sK o h).view.loc (thr d L) ↦[(sK o h).view.set]{fullShare} f
/-- A chunk of the result, as the program slices it. -/
abbrev oPts (f : Buf (Elt F) (oLoc d)) (c : BitVec 32) (h : ∀ a, (k3_off2 L c) a + S64x128.size a ≤ S16384x128.size a) : sProp 𝕄 :=
  (oK L c h).view.loc (thr d L) ↦[(oK L c h).view.set]{fullShare} f

omit [FloatOps F] in
/-- The list buffer as the eight slices the program makes of it. -/
theorem list_slices (f : Buf (Elt F) ((thr d L).loc cc3_scratch0)) :
    ((thr d L).loc cc3_scratch0 ↦{fullShare} f : sProp 𝕄)
      = iprop(sPts d L f 0 inb_S512_S64_0 ∗ sPts d L f 64 inb_S512_S64_64 ∗ sPts d L f 128 inb_S512_S64_128 ∗ sPts d L f 192 inb_S512_S64_192
        ∗ sPts d L f 256 inb_S512_S64_256 ∗ sPts d L f 320 inb_S512_S64_320 ∗ sPts d L f 384 inb_S512_S64_384 ∗ sPts d L f 448 inb_S512_S64_448) := by
  rw [list_chunks, bigSep_eight]; rfl

omit [FloatOps F] in
theorem out_slice (r : Fin 8) (f : Buf (Elt F) (oLoc d)) :
    (oLoc d ↦[(oRect (chunk (wid L) r)).set]{fullShare} f : sProp 𝕄) = (oRowK L r).view.loc (thr d L) ↦[(oRowK L r).view.set]{fullShare} f := by
  rw [set_oRowK]

omit [FloatOps F] in
/-- The task's eight chunks of the result as the slices the program makes. -/
theorem out_slices (Φ : Fin 8 → Buf (Elt F) (oLoc d) → Prop) :
    (bigSep Finset.univ fun r : Fin 8 => (iprop(∃ f, ⌜Φ r f⌝ ∗ oLoc d ↦[(oRect (chunk (wid L) r)).set]{fullShare} f) : sProp 𝕄))
      = iprop((∃ f, ⌜Φ 0 f⌝ ∗ oPts d L f 0#32 (k3_off2_inb L 0)) ∗ (∃ f, ⌜Φ 1 f⌝ ∗ oPts d L f 64#32 (k3_off2_inb L 1))
        ∗ (∃ f, ⌜Φ 2 f⌝ ∗ oPts d L f 128#32 (k3_off2_inb L 2)) ∗ (∃ f, ⌜Φ 3 f⌝ ∗ oPts d L f 192#32 (k3_off2_inb L 3))
        ∗ (∃ f, ⌜Φ 4 f⌝ ∗ oPts d L f 256#32 (k3_off2_inb L 4)) ∗ (∃ f, ⌜Φ 5 f⌝ ∗ oPts d L f 320#32 (k3_off2_inb L 5))
        ∗ (∃ f, ⌜Φ 6 f⌝ ∗ oPts d L f 384#32 (k3_off2_inb L 6)) ∗ (∃ f, ⌜Φ 7 f⌝ ∗ oPts d L f 448#32 (k3_off2_inb L 7))) := by
  simp only [out_slice]
  rw [bigSep_eight]; rfl

omit [FloatOps F] in
/-- The task's counters at zero, named as the program names them. -/
theorem sems_eq : (bigSep Finset.univ fun k => (semVal (thr d L, sems k) 0 : sProp 𝕄))
    = iprop(semVal (thr d L, SemLoc.dma cc3_scratch3.sem) 0 ∗ semVal (thr d L, SemLoc.dma cc3_scratch4.sem) 0 ∗ semVal (thr d L, SemLoc.dma cc3_scratch5.sem) 0
      ∗ semVal (thr d L, SemLoc.dma cc3_scoped0.sem) 0 ∗ semVal (thr d L, SemLoc.dma cc3_scoped1.sem) 0 ∗ semVal (thr d L, SemLoc.dma cc3_scoped2.sem) 0
      ∗ semVal (thr d L, SemLoc.dma cc3_scoped3.sem) 0 ∗ semVal (thr d L, SemLoc.dma cc3_scoped4.sem) 0 ∗ semVal (thr d L, SemLoc.dma cc3_scoped5.sem) 0
      ∗ semVal (thr d L, SemLoc.dma cc3_scoped6.sem) 0 ∗ semVal (thr d L, SemLoc.dma cc3_scoped7.sem) 0) := by
  rw [bigSep_eleven]; rfl

/-- The table row a list entry names. -/
def row (g : S16384.Idx → BitVec 32) (x : S16384x128.Idx) : S262144x128.Idx :=
  fun | 0 => ⟨(g (ValueIdx.ix1 (x 0))).toNat % 262144, Nat.mod_lt _ (by decide)⟩ | 1 => x 1 | ⟨_ + 2, h⟩ => absurd h (Nat.not_lt.2 (Nat.le_add_left _ _))

omit [FloatOps F] in
/-- A chunk of the result written with a payload that is, at each of its places, the table row the list names there, ends so. -/
theorem chunk_value (r : Fin 8) (tb : Buf (Elt F) (tLoc d)) (g : Buf (Elt F) (iLoc d)) (f : Buf (Elt F) (oLoc d)) (p : S64x128.Idx → Elt F .f32)
    (hp : ∀ y, p y = tb (row g ((oRowK L r).view.emb y))) :
    ∀ x ∈ (oRect (chunk (wid L) r)).set, (oRowK L r).view.writes (Elt F) f [⟨Rect.whole S64x128, p⟩] x = tb (row g x) := by
  intro x hx
  rw [← set_oRowK] at hx
  obtain ⟨y, -, rfl⟩ := Finset.mem_map.mp hx
  have h := View.read_writes_cons_emb (Val := Elt F) (oRowK L r).view f (Rect.whole S64x128) p [] y
  rw [Rect.emb_whole_apply] at h
  exact h.trans (hp y)

omit [FloatOps F] in
/-- What a gather brings: at each place of the chunk, the table row the list names there. -/
theorem gather_value (r : Fin 8) (tb : Buf (Elt F) (tLoc d)) (g : Buf (Elt F) (iLoc d)) (ls : S512.Idx → BitVec 32)
    (hls : ∀ z, ls z = g ((iRowK L).view.emb z)) (hn) (hin) (y : S64x128.Idx) :
    SparseCore.gatherPayload gathers_S262144x128_S64x128 (tAllK.view.read (Elt F) tb)
        (SparseCore.rows (F := F) (o := S64x128.size gathers_S262144x128_S64x128.axis') (z := S262144x128.size gathers_S262144x128_S64x128.axis) ((sRowK r).view.read (Elt F) ls) hn hin) y
      = tb (row g ((oRowK L r).view.emb y)) := by
  show tb (tAllK.view.emb _) = _
  congr 1
  funext b
  apply Fin.ext
  match b with
  | 0 =>
    have hlt := hin (S64.rowMajor.symm (Fin.cast hn.symm (y 0)))
    have hr := Shape.Gathers.idx_axis gathers_S262144x128_S64x128 (SparseCore.rows (F := F) ((sRowK r).view.read (Elt F) ls) hn hin) y
    show 0 + 1 * (gathers_S262144x128_S64x128.idx _ y gathers_S262144x128_S64x128.axis).val = _
    rw [hr]
    have hz : ((S64.rowMajor.symm (Fin.cast hn.symm (y 0))) 0).val = (y 0).val := by
      rw [← Shape.rowMajor_val_one, Equiv.apply_symm_apply]; rfl
    have hl := hls ((sRowK r).view.emb (S64.rowMajor.symm (Fin.cast hn.symm (y 0))))
    have hi : (iRowK L).view.emb ((sRowK r).view.emb (S64.rowMajor.symm (Fin.cast hn.symm (y 0)))) = ValueIdx.ix1 ((oRowK L r).view.emb y 0) := by
      refine funext fun (a : Fin 1) => ?_
      obtain rfl : a = 0 := Subsingleton.elim _ _
      apply Fin.ext
      show k3_off1 L 0 + 1 * (64 * r.val + 1 * ((S64.rowMajor.symm (Fin.cast hn.symm (y 0))) 0).val)
        = k3_off2 L (BitVec.ofNat 32 (64 * r.val)) 0 + 1 * (y 0).val
      rw [hz, k3_off1_eq, k3_off2_eq]
      simp
      omega
    show 0 + 1 * (ls ((sRowK r).view.emb (S64.rowMajor.symm (Fin.cast hn.symm (y 0))))).toNat = (g (ValueIdx.ix1 ((oRowK L r).view.emb y 0))).toNat % 262144
    rw [hl, hi]
    rw [show (sRowK r).view.read (Elt F) ls (S64.rowMajor.symm (Fin.cast hn.symm (y 0))) = ls ((sRowK r).view.emb (S64.rowMajor.symm (Fin.cast hn.symm (y 0)))) from rfl, hl, hi] at hlt
    exact (by omega : ∀ n : ℕ, n < 262144 → 0 + 1 * n = n % 262144) _ hlt
  | 1 =>
    show 0 + 1 * (gathers_S262144x128_S64x128.idx _ y 1).val = 0 + 1 * (y 1).val
    rw [Shape.Gathers.idx_of_ne _ _ _ _ (by decide)]
    rfl

omit [FloatOps F] in
/-- A buffer's reading after its last write, of the whole of it. -/
theorem read_last {s : Shape} {e : EltTy} {κ : Kind} {sp : Space} (v : View sig κ sp s e) (f) (p : s.Idx → Elt F e) (l) :
    ReadAs.same.apply (v.read (Elt F) (v.writes (Elt F) f (⟨Rect.whole s, p⟩ :: l))) = p := by
  funext y
  have h := View.read_writes_cons_emb (Val := Elt F) v f (Rect.whole s) p l y
  rw [Rect.emb_whole_apply] at h
  exact h

set_option maxHeartbeats 4000000 in
/-- The task on vector subcore `(L 0, L 1)` of device `d`, over a share of the table at any contents `tb`, its own list entries `g`
    (each a row of the table) and its eight chunks of the result: each chunk ends holding the table rows its list entries name. -/
theorem tile_body (hF : (K (F := F)).Facts) (q : PosShare TreeShare) (tb : Buf (Elt F) (tLoc d)) (g : Buf (Elt F) (iLoc d))
    (hg : ∀ x : S16384.Idx, (g x : BitVec 32).toNat < 262144)
    (O : CellTallies nD τ sig (HIx 2)) (W : Waits sig (HIx 2)) (hO : ∀ g, O g none = 0) :
    (iprop(levAts (K (F := F)).L (K (F := F)).lev ∗ emp
        ∗ ((tLoc d ↦{q} tb) ∗ (iLoc d ↦[(lRect (wid L)).set]{fullShare} g)
            ∗ bigSep Finset.univ fun r : Fin 8 => iprop(∃ f, ⌜True⌝ ∗ oLoc d ↦[(oRect (chunk (wid L) r)).set]{fullShare} f))
        ∗ scopedBufs (thr d L) ∗ scopedSems0 (thr d L) ∗ owes (thr d L) O W) : sProp 𝕄)
      ⊢ wp frame (wpE (defs₀ (F := F)) 𝒱₀ (thr d L) none) Set.univ
          (cc3_gather_user L tV (Memref.isWhole_whole _) iV (Memref.isWhole_whole _) oV (Memref.isWhole_whole _)
            sV (Memref.isWhole_whole _) aV (Memref.isWhole_whole _) bV (Memref.isWhole_whole _) cc3_scratch3 cc3_scratch4 cc3_scratch5
            cc3_scoped0 cc3_scoped1 cc3_scoped2 cc3_scoped3 cc3_scoped4 cc3_scoped5 cc3_scoped6 cc3_scoped7)
          fun _ => iprop((bigSep Finset.univ fun r : Fin 8 => iprop(∃ f, ⌜∀ x ∈ (oRect (chunk (wid L) r)).set, f x = tb (row g x)⌝
              ∗ oLoc d ↦[(oRect (chunk (wid L) r)).set]{fullShare} f))
            ∗ scopedBufs (thr d L) ∗ scopedSems0 (thr d L)
            ∗ ∃ W', ⌜∀ p ∈ W', p ∈ W ∨ p.2 = none⌝ ∗ owes (thr d L) O W') := by
  simp only [cc3_gather_user_eq_skeleton]; unfold cc3_gather_user_skel
  rw [(K (F := F)).scopedBufs_V hF d (cV L) (jV L), SparseCore.Cfg.scopedSems0_V (Val := Elt F) d (cV L) (jV L),
    ownSems0_eleven (F := F) (thr d L) sems sems_inj sems_scoped, sems_eq, ownBufs_V, out_slices, out_slices]
  iintro ⟨#Hlv, -, ⟨Ht, Hi, ⟨%f0, -, Ho0⟩, ⟨%f1, -, Ho1⟩, ⟨%f2, -, Ho2⟩, ⟨%f3, -, Ho3⟩, ⟨%f4, -, Ho4⟩, ⟨%f5, -, Ho5⟩, ⟨%f6, -, Ho6⟩, ⟨%f7, -, Ho7⟩⟩,
    ⟨⟨%fs, Hs⟩, ⟨%fa, Ha⟩, ⟨%fb, Hb⟩, Hbufs⟩, ⟨⟨S0, S1, S2, S3, S4, S5, S6, S7, S8, S9, S10⟩, Hsems⟩, HO⟩
  ihave Hmw := (show levAts (K (F := F)).L (K (F := F)).lev ⊢ Transfers.MayWaits (thr d L) (default : HIx 2) O from
    (K (F := F)).mayWaits_none (thr := thr d L) hO) $$ Hlv
  ihave Hi := (Entails.of_eq (show (iLoc d ↦[(lRect (wid L)).set]{fullShare} g : sProp 𝕄) = (iRowK L).view.loc (thr d L) ↦[(iRowK L).view.set]{fullShare} g by rw [set_iRowK])) $$ Hi
  ihave Hs := (Entails.of_eq (show ((thr d L).loc cc3_scratch0 ↦{fullShare} fs : sProp 𝕄) = sV.view.loc (thr d L) ↦{fullShare} fs from rfl)) $$ Hs
  ihave Ha := (Entails.of_eq (show ((thr d L).loc cc3_scratch1 ↦{fullShare} fa : sProp 𝕄) = aV.view.loc (thr d L) ↦{fullShare} fa from rfl)) $$ Ha
  ihave Hb := (Entails.of_eq (show ((thr d L).loc cc3_scratch2 ↦{fullShare} fb : sProp 𝕄) = bV.view.loc (thr d L) ↦{fullShare} fb from rfl)) $$ Hb
  sl_exec
  obtain ⟨ls, hls⟩ : ∃ ls : S512.Idx → Elt F .i32, ls = View.write (Elt F) sV.view fs ((iRowK L).view.read (Elt F) g) Finset.univ := ⟨_, rfl⟩
  ihave Hs := (Entails.of_eq (show (sV.view.loc (thr d L) ↦{fullShare} View.write (Elt F) sV.view fs (tile_body.sl.dma0 d L g) Finset.univ : sProp 𝕄) = (thr d L).loc cc3_scratch0 ↦{fullShare} ls by rw [hls]; rfl)) $$ Hs
  ihave Hs := (Entails.of_eq (list_slices (F := F) d L ls)) $$ Hs
  icases Hs with ⟨Hs0, Hs1, Hs2, Hs3, Hs4, Hs5, Hs6, Hs7⟩
  have hin : ∀ (o : ℕ) (h : ∀ a, (![o] : Fin 1 → ℕ) a + S64.size a ≤ S512.size a) (x : S64.Idx), ((sK o h).view.read (Elt F) ls x : BitVec 32).toNat < S262144x128.size gathers_S262144x128_S64x128.axis := by
    intro o h x
    rw [hls, View.write_whole_univ]
    exact hg _
  ihave Ht := (Entails.of_eq (show (tLoc d ↦{q} tb : sProp 𝕄) = tAllK.view.loc (thr d L) ↦[tAllK.view.set]{q} tb by rw [set_tAllK])) $$ Ht
  ihave Ht := (pointsTo_share (PosShare.mem_left_op_right q)).1 $$ Ht
  icases Ht with ⟨Hta, Htb⟩
  sl_exec
  sl_step
  have hlz : ∀ z, ls z = g ((iRowK L).view.emb z) := fun z => by rw [hls, View.write_whole_univ]; rfl
  isplitl [Ho0 Ho1 Ho2 Ho3 Ho4 Ho5 Ho6 Ho7]
  · isplitl [Ho0]
    · iexists _; isplitr
      swap; · iexact Ho0
      ipureintro
      exact chunk_value d L 0 tb g _ _ fun y => by
        unfold tile_body.sl.dma0_1; rw [read_last]; exact gather_value d L 0 tb g ls hlz _ _ y
    isplitl [Ho1]
    · iexists _; isplitr
      swap; · iexact Ho1
      ipureintro
      exact chunk_value d L 1 tb g _ _ fun y => by
        unfold tile_body.sl.dma0_2; rw [read_last]; exact gather_value d L 1 tb g ls hlz _ _ y
    isplitl [Ho2]
    · iexists _; isplitr
      swap; · iexact Ho2
      ipureintro
      exact chunk_value d L 2 tb g _ _ fun y => by
        unfold tile_body.sl.dma0_3; rw [read_last]; exact gather_value d L 2 tb g ls hlz _ _ y
    isplitl [Ho3]
    · iexists _; isplitr
      swap; · iexact Ho3
      ipureintro
      exact chunk_value d L 3 tb g _ _ fun y => by
        unfold tile_body.sl.dma0_4; rw [read_last]; exact gather_value d L 3 tb g ls hlz _ _ y
    isplitl [Ho4]
    · iexists _; isplitr
      swap; · iexact Ho4
      ipureintro
      exact chunk_value d L 4 tb g _ _ fun y => by
        unfold tile_body.sl.dma0_5; rw [read_last]; exact gather_value d L 4 tb g ls hlz _ _ y
    isplitl [Ho5]
    · iexists _; isplitr
      swap; · iexact Ho5
      ipureintro
      exact chunk_value d L 5 tb g _ _ fun y => by
        unfold tile_body.sl.dma0_6; rw [read_last]; exact gather_value d L 5 tb g ls hlz _ _ y
    isplitl [Ho6]
    · iexists _; isplitr
      swap; · iexact Ho6
      ipureintro
      exact chunk_value d L 6 tb g _ _ fun y => by
        unfold tile_body.sl.dma0_7; rw [read_last]; exact gather_value d L 6 tb g ls hlz _ _ y
    iexists _; isplitr
    swap; · iexact Ho7
    ipureintro
    exact chunk_value d L 7 tb g _ _ fun y => by
      unfold tile_body.sl.dma0_8; rw [read_last]; exact gather_value d L 7 tb g ls hlz _ _ y
  isplitl [Hs0 Hs1 Hs2 Hs3 Hs4 Hs5 Hs6 Hs7 Ha Hb Hbufs]
  · isplitl [Hs0 Hs1 Hs2 Hs3 Hs4 Hs5 Hs6 Hs7]
    · iexists ls
      rw [list_slices]
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hs7
    isplitl [Ha]; · iexists _; iexact Ha
    isplitl [Hb]; · iexists _; iexact Hb
    iexact Hbufs
  isplitl [S0 S1 S2 S3 S4 S5 S6 S7 S8 S9 S10 Hsems]
  · isplitl [S0 S1 S2 S3 S4 S5 S6 S7 S8 S9 S10]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    iexact Hsems
  iexists _; isplitr
  swap; · iexact HO
  ipureintro
  iterate 17 refine rec_insert ?_
  exact fun p hp => .inl hp

end User

end Cert.Proof.Mov

end
-- ==== Proof.Sc.lean ====
/-
  The two SparseCore calls as the launch sees them: what each of the thirty-two tasks is handed and hands back, that each
  task's body does so, and how the whole arrays are dealt to the tasks and gathered from them.
-/
module

public import proofs.«01_k».proof.Proof.TileMovie
public import proofs.«01_k».proof.Proof.TileUser

@[expose] public section

noncomputable section

namespace Cert.Proof.Mov

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## Numbering the tasks and their chunks -/

/-- Task number of core `c`, subcore `i`. -/
abbrev wd (c i : ℕ) : Fin 32 := ⟨(2 * i + c) % 32, Nat.mod_lt _ (by decide)⟩

/-- A sep over pairs is one over what the pairs number. -/
theorem bigSep_pairs {A B C : Type} [Fintype A] [Fintype B] [Fintype C] (f : A × B → C) (hf : Function.Bijective f) (Φ : C → sProp 𝕄) :
    (bigSep Finset.univ fun a : A => bigSep Finset.univ fun b : B => Φ (f (a, b))) = bigSep Finset.univ Φ := by
  rw [← bigSep_univ_prod (fun p : A × B => Φ (f p))]
  exact (bigSep_univ_equiv (Equiv.ofBijective f hf) (Φ := Φ)).symm

omit [FloatOps F] in
theorem wd_bij : Function.Bijective fun p : Fin 2 × Fin 16 => wd p.1.val p.2.val :=
  (Fintype.bijective_iff_injective_and_card _).mpr ⟨fun ⟨⟨a, ha⟩, ⟨b, hb⟩⟩ ⟨⟨a', ha'⟩, ⟨b', hb'⟩⟩ h => by
    have h' : (2 * b + a) % 32 = (2 * b' + a') % 32 := congrArg Fin.val h
    simp only [Prod.mk.injEq, Fin.mk.injEq]; omega, rfl⟩

omit [FloatOps F] in
theorem chunk_bij : Function.Bijective fun p : Fin 32 × Fin 8 => chunk p.1 p.2 :=
  (Fintype.bijective_iff_injective_and_card _).mpr ⟨fun ⟨⟨a, ha⟩, ⟨b, hb⟩⟩ ⟨⟨a', ha'⟩, ⟨b', hb'⟩⟩ h => by
    have h' : 8 * a + b = 8 * a' + b' := congrArg Fin.val h
    simp only [Prod.mk.injEq, Fin.mk.injEq]; omega, rfl⟩

/-- A whole points-to yields thirty-two read shares. -/
theorem shares32 {ℓ : Loc nD τ sig} (f : Buf (Elt F) ℓ) :
    (ℓ ↦{fullShare} f : sProp 𝕄) ⊢ bigSep Finset.univ fun w : Fin 32 => (ℓ ↦{piece fullShare w.val} f : sProp 𝕄) := by
  have e : (bigSep (Finset.range 32) fun i => (ℓ ↦{piece fullShare i} f : sProp 𝕄))
      = bigSep Finset.univ fun w : Fin 32 => (ℓ ↦{piece fullShare w.val} f : sProp 𝕄) := by
    rw [show Finset.range 32 = Finset.map Fin.valEmbedding (Finset.univ : Finset (Fin 32)) from by decide, bigSep_map]; rfl
  rw [← e]
  iintro H
  ihave H' := (pointsTo_pieces (F := F) Finset.univ f fullShare 32) $$ H
  icases H' with ⟨H, -⟩
  iexact H

/-! ## A call's arrays, dealt to its tasks and joined from them -/

section
variable {tl il ol : Loc nD τ sig} (li : Fin 32 → Finset (Idx il)) (oc : Fin 256 → Finset (Idx ol))

/-- What task `w` is handed: a share of a table of which `PT` holds, its list entries, and its rows of the result at any contents. -/
def goOf (PT : Buf (Elt F) tl → Prop) (g : Buf (Elt F) il) (w : Fin 32) : sProp 𝕄 :=
  iprop(∃ T, ⌜PT T⌝ ∗ (tl ↦{piece fullShare w.val} T) ∗ (il ↦[li w]{fullShare} g)
    ∗ bigSep Finset.univ fun r : Fin 8 => iprop(∃ f, ⌜True⌝ ∗ ol ↦[oc (chunk w r)]{fullShare} f))

/-- What task `w` hands back: its rows of the result, at contents of which `H` holds. -/
def tdOf (H : Buf (Elt F) ol → Idx ol → Prop) (w : Fin 32) : sProp 𝕄 :=
  bigSep Finset.univ fun r : Fin 8 => iprop(∃ f, ⌜∀ x ∈ oc (chunk w r), H f x⌝ ∗ ol ↦[oc (chunk w r)]{fullShare} f)

instance (PT : Buf (Elt F) tl → Prop) (g : Buf (Elt F) il) (w) : BI.Storable (upEmb : UEmb _ 𝕄) (goOf li oc PT g w) := by
  unfold goOf; infer_instance
instance (H : Buf (Elt F) ol → Idx ol → Prop) (w) : BI.Storable (upEmb : UEmb _ 𝕄) (tdOf oc H w) := by
  unfold tdOf; infer_instance

/-- A task's hand, the table's contents named. -/
theorem take (PT : Buf (Elt F) tl → Prop) (g : Buf (Elt F) il) (w : Fin 32) (A R : sProp 𝕄) :
    (iprop(A ∗ emp ∗ goOf li oc PT g w ∗ R) : sProp 𝕄)
      ⊢ iprop(∃ T, ⌜PT T⌝ ∗ (A ∗ emp ∗ ((tl ↦{piece fullShare w.val} T) ∗ (il ↦[li w]{fullShare} g)
        ∗ bigSep Finset.univ fun r : Fin 8 => iprop(∃ f, ⌜True⌝ ∗ ol ↦[oc (chunk w r)]{fullShare} f)) ∗ R)) := by
  unfold goOf
  iintro ⟨HA, -, ⟨%T, %hT, H⟩, HR⟩
  iexists T
  isplitr; · ipureintro; exact hT
  isplitl [HA]; · iexact HA
  isplitr; · iempintro
  isplitl [H]; · iexact H
  iexact HR

/-- What a task's body ends with is what the launch asks. -/
theorem give (H : Buf (Elt F) ol → Idx ol → Prop) (w : Fin 32) (H' : Buf (Elt F) ol → Idx ol → Prop) (h : ∀ f x, H' f x → H f x)
    {w' : Fin 32} (hw : w = w') {thr : Thread nD τ} {B C : sProp 𝕄} {O : CellTallies nD τ sig (HIx 2)} {W : Waits sig (HIx 2)} {q : Fin 2} :
    (iprop((bigSep Finset.univ fun r : Fin 8 => iprop(∃ f, ⌜∀ x ∈ oc (chunk w r), H' f x⌝ ∗ ol ↦[oc (chunk w r)]{fullShare} f)) ∗ B ∗ C
        ∗ ∃ W', ⌜∀ p ∈ W', p ∈ W ∨ p.2 = none⌝ ∗ owes thr O W') : sProp 𝕄)
      ⊢ iprop(tdOf oc H w' ∗ B ∗ C ∗ ∃ W', ⌜∀ p ∈ W', p ∈ W ∨ p.2 = none ∨ p.2 = some q⌝ ∗ owes thr O W') := by
  subst hw
  have h1 (r : Fin 8) : (iprop(∃ f, ⌜∀ x ∈ oc (chunk w r), H' f x⌝ ∗ ol ↦[oc (chunk w r)]{fullShare} f) : sProp 𝕄)
      ⊢ iprop(∃ f, ⌜∀ x ∈ oc (chunk w r), H f x⌝ ∗ ol ↦[oc (chunk w r)]{fullShare} f) := by
    iintro ⟨%f, %hf, H⟩
    iexists f
    isplitr; · ipureintro; exact fun x hx => h f x (hf x hx)
    iexact H
  have h2 : (bigSep Finset.univ fun r : Fin 8 => (iprop(∃ f, ⌜∀ x ∈ oc (chunk w r), H' f x⌝ ∗ ol ↦[oc (chunk w r)]{fullShare} f) : sProp 𝕄))
      ⊢ (tdOf oc H w : sProp 𝕄) := bigSep_mono fun r _ => h1 r
  iintro ⟨HA, HR⟩
  iapply obl_post
  isplitl [HA]; · iapply h2 $$ HA
  iexact HR

theorem exists_elim' {B : Type} {Φ : B → sProp 𝕄} {Q : sProp 𝕄} (h : ∀ b, Φ b ⊢ Q) : (iprop(∃ b, Φ b) : sProp 𝕄) ⊢ Q := by
  iintro ⟨%b, H⟩; iapply (h b) $$ H
theorem pure_sep_elim' {φ : Prop} {Φ Q : sProp 𝕄} (h : φ → (Φ ⊢ Q)) : (iprop(⌜φ⌝ ∗ Φ) : sProp 𝕄) ⊢ Q := by
  iintro ⟨%b, H⟩; iapply (h b) $$ H

variable (hid : ∀ i ∈ (Finset.univ : Finset (Fin 32)), ∀ j ∈ (Finset.univ : Finset (Fin 32)), i ≠ j → Disjoint (li i) (li j))
  (hic : (Finset.univ : Finset (Fin 32)).biUnion li = Finset.univ)
  (hod : ∀ i ∈ (Finset.univ : Finset (Fin 256)), ∀ j ∈ (Finset.univ : Finset (Fin 256)), i ≠ j → Disjoint (oc i) (oc j))
  (hoc : (Finset.univ : Finset (Fin 256)).biUnion oc = Finset.univ)
include hid hic hod hoc

/-- The whole arrays, dealt to the tasks. -/
theorem deal (PT : Buf (Elt F) tl → Prop) (g : Buf (Elt F) il) (T : Buf (Elt F) tl) (hT : PT T) (f : Buf (Elt F) ol) :
    (iprop((tl ↦{fullShare} T) ∗ (il ↦{fullShare} g) ∗ (ol ↦{fullShare} f)) : sProp 𝕄)
      ⊢ bigSep Finset.univ fun c : Fin 2 => bigSep Finset.univ fun i : Fin 16 => goOf li oc PT g (wd c.val i.val) := by
  rw [bigSep_pairs (F := F) (fun p : Fin 2 × Fin 16 => wd p.1.val p.2.val) wd_bij (fun w => goOf li oc PT g w)]
  have hi : (il ↦{fullShare} g : sProp 𝕄) = bigSep Finset.univ fun w : Fin 32 => (il ↦[li w]{fullShare} g : sProp 𝕄) := by
    rw [← pointsTo_biUnion (ℓ := il) Finset.univ li hid, hic]
  have ho : (ol ↦{fullShare} f : sProp 𝕄) = bigSep Finset.univ fun w : Fin 32 => bigSep Finset.univ fun r : Fin 8 =>
      (ol ↦[oc (chunk w r)]{fullShare} f : sProp 𝕄) := by
    rw [bigSep_pairs (F := F) (fun p : Fin 32 × Fin 8 => chunk p.1 p.2) chunk_bij (fun k => (ol ↦[oc k]{fullShare} f : sProp 𝕄)),
      ← pointsTo_biUnion (ℓ := ol) Finset.univ oc hod, hoc]
  have hch (w : Fin 32) (r : Fin 8) : (ol ↦[oc (chunk w r)]{fullShare} f : sProp 𝕄)
      ⊢ iprop(∃ f, ⌜True⌝ ∗ ol ↦[oc (chunk w r)]{fullShare} f) := by
    iintro H
    iexists f
    isplitr; · ipureintro; trivial
    iexact H
  have hchs (w : Fin 32) : (bigSep Finset.univ fun r : Fin 8 => (ol ↦[oc (chunk w r)]{fullShare} f : sProp 𝕄))
      ⊢ (bigSep Finset.univ fun r : Fin 8 => iprop(∃ f, ⌜True⌝ ∗ ol ↦[oc (chunk w r)]{fullShare} f) : sProp 𝕄) := bigSep_mono fun r _ => hch w r
  have hgo (w : Fin 32) : (iprop((tl ↦{piece fullShare w.val} T) ∗ (il ↦[li w]{fullShare} g)
      ∗ bigSep Finset.univ fun r : Fin 8 => (ol ↦[oc (chunk w r)]{fullShare} f)) : sProp 𝕄) ⊢ goOf li oc PT g w := by
    unfold goOf
    iintro ⟨Ht, Hi, Ho⟩
    iexists T
    isplitr; · ipureintro; exact hT
    isplitl [Ht]; · iexact Ht
    isplitl [Hi]; · iexact Hi
    iapply (hchs w) $$ Ho
  have hall : (iprop((bigSep Finset.univ fun w : Fin 32 => tl ↦{piece fullShare w.val} T) ∗ (il ↦{fullShare} g) ∗ (ol ↦{fullShare} f)) : sProp 𝕄)
      ⊢ bigSep Finset.univ fun w : Fin 32 => goOf li oc PT g w := by
    rw [hi, ho, ← bigSep_sep', ← bigSep_sep']
    exact bigSep_mono fun w _ => hgo w
  iintro ⟨Ht, Hr⟩
  ihave Ht := (shares32 (F := F) T) $$ Ht
  iapply hall
  isplitl [Ht] <;> iassumption

omit hid hic in
/-- The gathered result, joined from the tasks. -/
theorem join (H : Buf (Elt F) ol → Idx ol → Prop) (hH : ∀ f f' x, f x = f' x → H f' x → H f x) :
    (bigSep Finset.univ fun c : Fin 2 => bigSep Finset.univ fun i : Fin 16 => tdOf oc H (wd c.val i.val))
      ⊢ (iprop(∃ f, ⌜∀ x, H f x⌝ ∗ (ol ↦{fullShare} f)) : sProp 𝕄) := by
  rw [bigSep_pairs (F := F) (fun p : Fin 2 × Fin 16 => wd p.1.val p.2.val) wd_bij (fun w => tdOf oc H w)]
  unfold tdOf
  rw [bigSep_pairs (F := F) (fun p : Fin 32 × Fin 8 => chunk p.1 p.2) chunk_bij
    (fun k => (iprop(∃ f, ⌜∀ x ∈ oc k, H f x⌝ ∗ ol ↦[oc k]{fullShare} f) : sProp 𝕄))]
  refine (bigSep_exists_pi Finset.univ (fun (k : Fin 256) (f : Buf (Elt F) ol) =>
    (iprop(⌜∀ x ∈ oc k, H f x⌝ ∗ ol ↦[oc k]{fullShare} f) : sProp 𝕄))).trans ?_
  iintro ⟨%fs, H⟩
  ihave H := (bigSep_pure_sep Finset.univ (fun k : Fin 256 => ∀ x ∈ oc k, H (fs k) x)
    (fun k => (ol ↦[oc k]{fullShare} fs k : sProp 𝕄))) $$ H
  icases H with ⟨%hp, H⟩
  ihave H' := (pointsTo_biUnion_join (ℓ := ol) (q := fullShare) (Val := Elt F) Finset.univ oc fs (fs 0) hod) $$ H
  icases H' with ⟨%f, %hf, Hf⟩
  ihave Hf := (Entails.of_eq (congrArg (fun I => (ol ↦[I]{fullShare} f : sProp 𝕄)) hoc)) $$ Hf
  iexists f
  isplitr
  · ipureintro; intro x
    obtain ⟨k, -, hk⟩ := Finset.mem_biUnion.mp (hoc ▸ Finset.mem_univ x)
    exact hH _ _ _ (hf k (Finset.mem_univ k) x hk) (hp k (Finset.mem_univ k) x hk)
  · iexact Hf

end

/-! ## The two calls -/

namespace Movie

variable (PT : (d : Dev nD) → Buf (Elt F) (tLoc d) → Prop) (g : (d : Dev nD) → Buf (Elt F) (iLoc d))

/-- `f` holds at `x` the entry that the list's row names of a table of which `PT` holds. -/
def Has (d : Dev nD) (f : Buf (Elt F) (oLoc d)) (x : S16384x128.Idx) : Prop := ∃ T, PT d T ∧ f x = T (row (g d) x)

abbrev go (d : Dev nD) (w : Fin 32) : sProp 𝕄 :=
  goOf (tl := tLoc d) (il := iLoc d) (ol := oLoc d) (fun w => (lRect w).set) (fun k => (oRect k).set) (PT d) (g d) w
abbrev td (d : Dev nD) (w : Fin 32) : sProp 𝕄 := tdOf (ol := oLoc d) (fun k => (oRect k).set) (Has PT g d) w

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2_gather_movie (coordsV c s)
          tV (Memref.isWhole_whole _) iV (Memref.isWhole_whole _) oV (Memref.isWhole_whole _)
          sV (Memref.isWhole_whole _) aV (Memref.isWhole_whole _) bV (Memref.isWhole_whole _) cc2_scratch3 cc2_scratch4 cc2_scratch5
          cc2_scoped0 cc2_scoped1 cc2_scoped2 cc2_scoped3 cc2_scoped4 cc2_scoped5 cc2_scoped6 cc2_scoped7) ⟨⟩ c s := rfl

end Movie

namespace User

variable (PT : (d : Dev nD) → Buf (Elt F) (tLoc d) → Prop) (g : (d : Dev nD) → Buf (Elt F) (iLoc d))

/-- `f` holds at `x` the entry that the list's row names of a table of which `PT` holds. -/
def Has (d : Dev nD) (f : Buf (Elt F) (oLoc d)) (x : S16384x128.Idx) : Prop := ∃ T, PT d T ∧ f x = T (row (g d) x)

abbrev go (d : Dev nD) (w : Fin 32) : sProp 𝕄 :=
  goOf (tl := tLoc d) (il := iLoc d) (ol := oLoc d) (fun w => (lRect w).set) (fun k => (oRect k).set) (PT d) (g d) w
abbrev td (d : Dev nD) (w : Fin 32) : sProp 𝕄 := tdOf (ol := oLoc d) (fun k => (oRect k).set) (Has PT g d) w

def coordsV (c : Fin (grid3.bound 0)) (s : Fin (grid3.bound 1)) : grid3.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 3 ()
      = SparseCore.onTile hcore3 hsub3 (fun c s => cc3_gather_user (coordsV c s)
          tV (Memref.isWhole_whole _) iV (Memref.isWhole_whole _) oV (Memref.isWhole_whole _)
          sV (Memref.isWhole_whole _) aV (Memref.isWhole_whole _) bV (Memref.isWhole_whole _) cc3_scratch3 cc3_scratch4 cc3_scratch5
          cc3_scoped0 cc3_scoped1 cc3_scoped2 cc3_scoped3 cc3_scoped4 cc3_scoped5 cc3_scoped6 cc3_scoped7) ⟨⟩ c s := rfl

end User

/-! ## The launch's payloads -/

/-- What the two calls' arrays are known to be when they start: predicates on the tables, and the lists. -/
structure Known where
  PM : (d : Dev nD) → Buf (Elt F) (Movie.tLoc d) → Prop
  PU : (d : Dev nD) → Buf (Elt F) (User.tLoc d) → Prop
  gM : (d : Dev nD) → Buf (Elt F) (Movie.iLoc d)
  gU : (d : Dev nD) → Buf (Elt F) (User.iLoc d)
  hgM : ∀ d (x : S16384.Idx), (gM d x : BitVec 32).toNat < 32768
  hgU : ∀ d (x : S16384.Idx), (gU d x : BitVec 32).toNat < 262144

variable (κ : Known (F := F))

def goP (q : Fin 2) (d : Dev nD) (w : Fin 32) : sProp 𝕄 :=
  match q with | 0 => Movie.go κ.PM κ.gM d w | 1 => User.go κ.PU κ.gU d w
def tdP (q : Fin 2) (d : Dev nD) (w : Fin 32) : sProp 𝕄 :=
  match q with | 0 => Movie.td κ.PM κ.gM d w | 1 => User.td κ.PU κ.gU d w

instance (q d w) : BI.Storable (upEmb : UEmb _ 𝕄) (goP κ q d w) := match q with
  | 0 => (inferInstance : BI.Storable (upEmb : UEmb _ 𝕄) (Movie.go κ.PM κ.gM d w))
  | 1 => (inferInstance : BI.Storable (upEmb : UEmb _ 𝕄) (User.go κ.PU κ.gU d w))
instance (q d w) : BI.Storable (upEmb : UEmb _ 𝕄) (tdP κ q d w) := match q with
  | 0 => (inferInstance : BI.Storable (upEmb : UEmb _ 𝕄) (Movie.td κ.PM κ.gM d w))
  | 1 => (inferInstance : BI.Storable (upEmb : UEmb _ 𝕄) (User.td κ.PU κ.gU d w))

/-- What the handshakes carry. -/
def P : (K (F := F)).Pay (nD := nD) (Val := Elt F) (Name := ℕ) (U := UU) where
  st := fun q d c => bigSep (Finset.univ : Finset (Fin ((K (F := F)).nSub q))) fun i => goP κ q d (wd c.val i.val)
  dn := fun q d c => bigSep (Finset.univ : Finset (Fin ((K (F := F)).nSub q))) fun i => tdP κ q d (wd c.val i.val)
  go := fun q d c i => goP κ q d (wd c.val i.val)
  td := fun q d c i => tdP κ q d (wd c.val i.val)
  x := fun _ _ => iprop(emp)

instance P_storable : (P κ).IsStorable where
  st q d c := (inferInstance : BI.Storable (upEmb : UEmb _ 𝕄) (bigSep (Finset.univ : Finset (Fin ((K (F := F)).nSub q))) fun i => goP κ q d (wd c.val i.val)))
  dn q d c := (inferInstance : BI.Storable (upEmb : UEmb _ 𝕄) (bigSep (Finset.univ : Finset (Fin ((K (F := F)).nSub q))) fun i => tdP κ q d (wd c.val i.val)))
  go q d c i := (inferInstance : BI.Storable (upEmb : UEmb _ 𝕄) (goP κ q d (wd c.val i.val)))
  td q d c i := (inferInstance : BI.Storable (upEmb : UEmb _ 𝕄) (tdP κ q d (wd c.val i.val)))

theorem vecSplit (q : Fin 2) : (K (F := F)).VecSplit' (P κ) q := by
  intro d c
  show (bigSep (Finset.univ : Finset (Fin ((K (F := F)).nSub q))) fun i => goP κ q d (wd c.val i.val)) ⊢ |={Set.univ}=> iprop(
      (bigSep (Finset.univ : Finset (Fin ((K (F := F)).nSub q))) fun i => goP κ q d (wd c.val i.val))
      ∗ ((bigSep (Finset.univ : Finset (Fin ((K (F := F)).nSub q))) fun i => tdP κ q d (wd c.val i.val))
          -∗ bigSep (Finset.univ : Finset (Fin ((K (F := F)).nSub q))) fun i => tdP κ q d (wd c.val i.val)))
  iintro H; imodintro
  isplitl [H]; · iexact H
  iintro H; iexact H

set_option maxRecDepth 16384 in
/-- The movie call's task does what the launch asks of it. -/
theorem tileObl0 (hF : (K (F := F)).Facts) : (K (F := F)).TileObl (D (F := F)) 𝒱 (P κ) v₀ 0 := by
  intro d c i O W hO _ _
  simp only [show (P κ).ox = fun _ _ => 0 from rfl, add_zero]
  have hci : ((K (F := F)).core 0 c).val < grid2.bound 0 ∧ ((K (F := F)).sub 0 i).val < grid2.bound 1 := ⟨c.isLt, i.isLt⟩
  have hw : Movie.wid (Movie.coordsV ⟨_, hci.1⟩ ⟨_, hci.2⟩) = wd c.val i.val := by
    have h1 : c.val < 2 := c.isLt
    have h2 : i.val < 16 := i.isLt
    exact Fin.ext (show 2 * i.val + c.val = (2 * i.val + c.val) % 32 by omega)
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [Movie.defs₀_vector]
  simp only [SparseCore.onTile, hci, and_self, ↓reduceDIte]
  refine BI.Entails.trans (take (tl := Movie.tLoc d) (il := Movie.iLoc d) (ol := Movie.oLoc d) (fun w => (lRect w).set) (fun k => (oRect k).set)
    (κ.PM d) (κ.gM d) (wd c.val i.val) _ _) (exists_elim' fun B => pure_sep_elim' fun hB => ?_)
  rw [← hw]
  refine BI.Entails.trans (Movie.tile_body d (Movie.coordsV ⟨_, hci.1⟩ ⟨_, hci.2⟩) hF _ B (κ.gM d) (κ.hgM d) O W hO)
    (wp_mono frame _ _ fun _ => ?_)
  exact give (ol := Movie.oLoc d) (fun k => (oRect k).set) (Movie.Has κ.PM κ.gM d) _ (fun f x => f x = B (Movie.row (κ.gM d) x))
    (fun f x h => ⟨B, hB, h⟩) hw

set_option maxRecDepth 16384 in
/-- The user call's task does what the launch asks of it. -/
theorem tileObl1 (hF : (K (F := F)).Facts) : (K (F := F)).TileObl (D (F := F)) 𝒱 (P κ) v₀ 1 := by
  intro d c i O W hO _ _
  simp only [show (P κ).ox = fun _ _ => 0 from rfl, add_zero]
  have hci : ((K (F := F)).core 1 c).val < grid3.bound 0 ∧ ((K (F := F)).sub 1 i).val < grid3.bound 1 := ⟨c.isLt, i.isLt⟩
  have hw : User.wid (User.coordsV ⟨_, hci.1⟩ ⟨_, hci.2⟩) = wd c.val i.val := by
    have h1 : c.val < 2 := c.isLt
    have h2 : i.val < 16 := i.isLt
    exact Fin.ext (show 2 * i.val + c.val = (2 * i.val + c.val) % 32 by omega)
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [User.defs₀_vector]
  simp only [SparseCore.onTile, hci, and_self, ↓reduceDIte]
  refine BI.Entails.trans (take (tl := User.tLoc d) (il := User.iLoc d) (ol := User.oLoc d) (fun w => (lRect w).set) (fun k => (oRect k).set)
    (κ.PU d) (κ.gU d) (wd c.val i.val) _ _) (exists_elim' fun B => pure_sep_elim' fun hB => ?_)
  rw [← hw]
  refine BI.Entails.trans (User.tile_body d (User.coordsV ⟨_, hci.1⟩ ⟨_, hci.2⟩) hF _ B (κ.gU d) (κ.hgU d) O W hO)
    (wp_mono frame _ _ fun _ => ?_)
  exact give (ol := User.oLoc d) (fun k => (oRect k).set) (User.Has κ.PU κ.gU d) _ (fun f x => f x = B (User.row (κ.gU d) x))
    (fun f x h => ⟨B, hB, h⟩) hw

end Cert.Proof.Mov

end
-- ==== Proof.Ops.lean ====
/-
  The main thread's straight lines of host operations, and what they leave in the buffers that the calls read.
-/
module

public import proofs.«01_k».proof.Proof.Host
public import proofs.«01_k».proof.Proof.Sc

@[expose] public section

noncomputable section

namespace Cert.Proof.Mov

open Cert.KernelIdeal Cert.KernelIdeal.Gen

open Idealize.ShloMosaic
open Idealize.ShloMosaic.TcCoe
open Idealize.ShloMosaic.StableHlo (after)

variable {F : FTy → Type} [FloatOps F]

/-- The host operations: the movie table transposed and split in four. -/
def opsA : List (HloOp τ sig (Elt F)) :=
  [ StableHlo.unary main_arg3 main_v0 ((transpose S32x100000 [1, 0] · transposes_S100000x32_S32x100000_1_0) : (⟨S100000x32, .f32⟩ : BufTy).Contents (Elt F) → (⟨S32x100000, .f32⟩ : BufTy).Contents (Elt F))
  , StableHlo.reshape main_v0 main_v1 (rfl : (.f32 : EltTy) = .f32) shapeCasts_S32x100000_S4x8x100000 ]

/-- The host operations: the user table transposed and split in four, the movie rows kept. -/
def opsB : List (HloOp τ sig (Elt F)) :=
  [ StableHlo.unary main_arg2 main_v3 ((transpose S32x1000000 [1, 0] · transposes_S1000000x32_S32x1000000_1_0) : (⟨S1000000x32, .f32⟩ : BufTy).Contents (Elt F) → (⟨S32x1000000, .f32⟩ : BufTy).Contents (Elt F))
  , StableHlo.unary main_v2 main_v4_0 (id : (⟨S32768x128, .f32⟩ : BufTy).Contents (Elt F) → (⟨S32768x128, .f32⟩ : BufTy).Contents (Elt F))
  , StableHlo.unary main_v3 main_v4_1 (id : (⟨S32x1000000, .f32⟩ : BufTy).Contents (Elt F) → (⟨S32x1000000, .f32⟩ : BufTy).Contents (Elt F))
  , StableHlo.reshape main_v4_1 main_v5 (rfl : (.f32 : EltTy) = .f32) shapeCasts_S32x1000000_S4x8x1000000 ]

/-- The host operations: the rows and quarters that the two index lists name. -/
def opsC : List (HloOp τ sig (Elt F)) :=
  [ StableHlo.nullary main_c (constantI S_ 32 16#32)
  , StableHlo.unary main_c main_v7 (broadcastInDim S16384 ![] bcast_S_S16384 : (⟨S_, .i32⟩ : BufTy).Contents (Elt F) → (⟨S16384, .i32⟩ : BufTy).Contents (Elt F))
  , StableHlo.binary main_arg0 main_v7 main_v8 (Host.shrsi : (⟨S16384, .i32⟩ : BufTy).Contents (Elt F) → (⟨S16384, .i32⟩ : BufTy).Contents (Elt F) → (⟨S16384, .i32⟩ : BufTy).Contents (Elt F))
  , StableHlo.nullary main_c_0 (constantI S_ 32 16384#32)
  , StableHlo.unary main_c_0 main_v9 (broadcastInDim S16384 ![] bcast_S_S16384 : (⟨S_, .i32⟩ : BufTy).Contents (Elt F) → (⟨S16384, .i32⟩ : BufTy).Contents (Elt F))
  , StableHlo.binary main_v8 main_v9 main_v10 (muli : (⟨S16384, .i32⟩ : BufTy).Contents (Elt F) → (⟨S16384, .i32⟩ : BufTy).Contents (Elt F) → (⟨S16384, .i32⟩ : BufTy).Contents (Elt F))
  , StableHlo.nullary main_c_1 (constantI S_ 32 16383#32)
  , StableHlo.unary main_c_1 main_v11 (broadcastInDim S16384 ![] bcast_S_S16384 : (⟨S_, .i32⟩ : BufTy).Contents (Elt F) → (⟨S16384, .i32⟩ : BufTy).Contents (Elt F))
  , StableHlo.binary main_arg0 main_v11 main_v12 (andi : (⟨S16384, .i32⟩ : BufTy).Contents (Elt F) → (⟨S16384, .i32⟩ : BufTy).Contents (Elt F) → (⟨S16384, .i32⟩ : BufTy).Contents (Elt F))
  , StableHlo.binary main_v10 main_v12 main_v13 (addi : (⟨S16384, .i32⟩ : BufTy).Contents (Elt F) → (⟨S16384, .i32⟩ : BufTy).Contents (Elt F) → (⟨S16384, .i32⟩ : BufTy).Contents (Elt F))
  , StableHlo.nullary main_c_2 (constantI S_ 32 16#32)
  , StableHlo.unary main_c_2 main_v14 (broadcastInDim S16384 ![] bcast_S_S16384 : (⟨S_, .i32⟩ : BufTy).Contents (Elt F) → (⟨S16384, .i32⟩ : BufTy).Contents (Elt F))
  , StableHlo.binary main_arg1 main_v14 main_v15 (Host.shrsi : (⟨S16384, .i32⟩ : BufTy).Contents (Elt F) → (⟨S16384, .i32⟩ : BufTy).Contents (Elt F) → (⟨S16384, .i32⟩ : BufTy).Contents (Elt F))
  , StableHlo.nullary main_c_3 (constantI S_ 32 16384#32)
  , StableHlo.unary main_c_3 main_v16 (broadcastInDim S16384 ![] bcast_S_S16384 : (⟨S_, .i32⟩ : BufTy).Contents (Elt F) → (⟨S16384, .i32⟩ : BufTy).Contents (Elt F))
  , StableHlo.binary main_v15 main_v16 main_v17 (muli : (⟨S16384, .i32⟩ : BufTy).Contents (Elt F) → (⟨S16384, .i32⟩ : BufTy).Contents (Elt F) → (⟨S16384, .i32⟩ : BufTy).Contents (Elt F))
  , StableHlo.nullary main_c_4 (constantI S_ 32 16383#32)
  , StableHlo.unary main_c_4 main_v18 (broadcastInDim S16384 ![] bcast_S_S16384 : (⟨S_, .i32⟩ : BufTy).Contents (Elt F) → (⟨S16384, .i32⟩ : BufTy).Contents (Elt F))
  , StableHlo.binary main_arg1 main_v18 main_v19 (andi : (⟨S16384, .i32⟩ : BufTy).Contents (Elt F) → (⟨S16384, .i32⟩ : BufTy).Contents (Elt F) → (⟨S16384, .i32⟩ : BufTy).Contents (Elt F))
  , StableHlo.binary main_v17 main_v19 main_v20 (addi : (⟨S16384, .i32⟩ : BufTy).Contents (Elt F) → (⟨S16384, .i32⟩ : BufTy).Contents (Elt F) → (⟨S16384, .i32⟩ : BufTy).Contents (Elt F))
  , StableHlo.nullary main_c_5 (constantI S_ 32 65535#32)
  , StableHlo.unary main_c_5 main_v21 (broadcastInDim S16384 ![] bcast_S_S16384 : (⟨S_, .i32⟩ : BufTy).Contents (Elt F) → (⟨S16384, .i32⟩ : BufTy).Contents (Elt F))
  , StableHlo.binary main_arg0 main_v21 main_v22 (andi : (⟨S16384, .i32⟩ : BufTy).Contents (Elt F) → (⟨S16384, .i32⟩ : BufTy).Contents (Elt F) → (⟨S16384, .i32⟩ : BufTy).Contents (Elt F))
  , StableHlo.nullary main_c_6 (constantI S_ 32 14#32)
  , StableHlo.unary main_c_6 main_v23 (broadcastInDim S16384 ![] bcast_S_S16384 : (⟨S_, .i32⟩ : BufTy).Contents (Elt F) → (⟨S16384, .i32⟩ : BufTy).Contents (Elt F))
  , StableHlo.binary main_v22 main_v23 main_v24 (Host.shrsi : (⟨S16384, .i32⟩ : BufTy).Contents (Elt F) → (⟨S16384, .i32⟩ : BufTy).Contents (Elt F) → (⟨S16384, .i32⟩ : BufTy).Contents (Elt F))
  , StableHlo.nullary main_c_7 (constantI S_ 32 65535#32)
  , StableHlo.unary main_c_7 main_v25 (broadcastInDim S16384 ![] bcast_S_S16384 : (⟨S_, .i32⟩ : BufTy).Contents (Elt F) → (⟨S16384, .i32⟩ : BufTy).Contents (Elt F))
  , StableHlo.binary main_arg1 main_v25 main_v26 (andi : (⟨S16384, .i32⟩ : BufTy).Contents (Elt F) → (⟨S16384, .i32⟩ : BufTy).Contents (Elt F) → (⟨S16384, .i32⟩ : BufTy).Contents (Elt F))
  , StableHlo.nullary main_c_8 (constantI S_ 32 14#32)
  , StableHlo.unary main_c_8 main_v27 (broadcastInDim S16384 ![] bcast_S_S16384 : (⟨S_, .i32⟩ : BufTy).Contents (Elt F) → (⟨S16384, .i32⟩ : BufTy).Contents (Elt F))
  , StableHlo.binary main_v26 main_v27 main_v28 (Host.shrsi : (⟨S16384, .i32⟩ : BufTy).Contents (Elt F) → (⟨S16384, .i32⟩ : BufTy).Contents (Elt F) → (⟨S16384, .i32⟩ : BufTy).Contents (Elt F)) ]

/-- The host operations: the two halves of the first layer. -/
def opsD : List (HloOp τ sig (Elt F)) :=
  [ StableHlo.unary main_arg4 main_v31 ((extractStridedSlice S128x32 ![0, 0] · slices_S128x64_S128x32_0_0) : (⟨S128x64, .f32⟩ : BufTy).Contents (Elt F) → (⟨S128x32, .f32⟩ : BufTy).Contents (Elt F))
  , StableHlo.unary main_arg4 main_v32 ((extractStridedSlice S128x32 ![0, 32] · slices_S128x64_S128x32_0_32) : (⟨S128x64, .f32⟩ : BufTy).Contents (Elt F) → (⟨S128x32, .f32⟩ : BufTy).Contents (Elt F)) ]

/-- The rows of the packed table that a list of indices names. -/
def rowsOf (x : IVec S16384 32) : IVec S16384 32 :=
  addi (muli (Host.shrsi x (broadcastInDim S16384 ![] bcast_S_S16384 (constantI S_ 32 16#32)))
      (broadcastInDim S16384 ![] bcast_S_S16384 (constantI S_ 32 16384#32)))
    (andi x (broadcastInDim S16384 ![] bcast_S_S16384 (constantI S_ 32 16383#32)))

/-- The quarter of the packed row that each index of a list names. -/
def quartersOf (x : IVec S16384 32) : IVec S16384 32 :=
  Host.shrsi (andi x (broadcastInDim S16384 ![] bcast_S_S16384 (constantI S_ 32 65535#32)))
    (broadcastInDim S16384 ![] bcast_S_S16384 (constantI S_ 32 14#32))

/-- The movie table as the first repack reads it. -/
def splitM (x : FVec F S100000x32 .f32) : FVec F S4x8x100000 .f32 :=
  shapeCast S4x8x100000 (transpose S32x100000 [1, 0] x transposes_S100000x32_S32x100000_1_0) shapeCasts_S32x100000_S4x8x100000

/-- The user table as the second repack reads it. -/
def splitU (x : FVec F S1000000x32 .f32) : FVec F S4x8x1000000 .f32 :=
  shapeCast S4x8x1000000 (transpose S32x1000000 [1, 0] x transposes_S1000000x32_S32x1000000_1_0) shapeCasts_S32x1000000_S4x8x1000000

section
variable (V : Valuation τ sig (Elt F))

theorem afterA_v1 : after opsA V (dr main_v1) = splitM (V (dr main_arg3)) := by
  unfold opsA; after_results; rfl
theorem afterB_v5 : after opsB V (dr main_v5) = splitU (V (dr main_arg2)) := by
  unfold opsB; after_results; rfl
theorem afterB_v4_0 : after opsB V (dr main_v4_0) = V (dr main_v2) := by
  unfold opsB; after_results; rfl
theorem afterC_v13 : after opsC V (dr main_v13) = rowsOf (V (dr main_arg0)) := by
  unfold opsC; after_results; rfl
theorem afterC_v20 : after opsC V (dr main_v20) = rowsOf (V (dr main_arg1)) := by
  unfold opsC; after_results; rfl
theorem afterC_v24 : after opsC V (dr main_v24) = quartersOf (V (dr main_arg0)) := by
  unfold opsC; after_results; rfl
theorem afterC_v28 : after opsC V (dr main_v28) = quartersOf (V (dr main_arg1)) := by
  unfold opsC; after_results; rfl
theorem afterD_v31 : after opsD V (dr main_v31) = extractStridedSlice S128x32 ![0, 0] (V (dr main_arg4)) slices_S128x64_S128x32_0_0 := by
  unfold opsD; after_results
theorem afterD_v32 : after opsD V (dr main_v32) = extractStridedSlice S128x32 ![0, 32] (V (dr main_arg4)) slices_S128x64_S128x32_0_32 := by
  unfold opsD; after_results

end

/-! ## The buffers each line writes, and that it only names unscoped ones -/

abbrev wA : List (Ref sig .tc) := [main_v0, main_v1]
abbrev wB : List (Ref sig .tc) := [main_v3, main_v4_0, main_v4_1, main_v5]
abbrev wC : List (Ref sig .tc) := [main_c, main_v7, main_v8, main_c_0, main_v9, main_v10, main_c_1, main_v11, main_v12, main_v13, main_c_2, main_v14, main_v15, main_c_3, main_v16, main_v17, main_c_4, main_v18, main_v19, main_v20, main_c_5, main_v21, main_v22, main_c_6, main_v23, main_v24, main_c_7, main_v25, main_v26, main_c_8, main_v27, main_v28]
abbrev wD : List (Ref sig .tc) := [main_v31, main_v32]

theorem offA (V : Valuation τ sig (Elt F)) {r : Ref sig .tc} (hr : r ∉ wA) : after opsA V (dr r) = V (dr r) :=
  StableHlo.after_of_writes_sub opsA V (StableHlo.forall_writes_sub_of_map rfl) hr
theorem freshA : ∀ op ∈ (opsA : List (HloOp τ sig (Elt F))), op.fresh = ∅ :=
  List.forall_iff_forall_mem.mp (StableHlo.forall_fresh_of_map rfl)
theorem subA : ∀ op ∈ (opsA : List (HloOp τ sig (Elt F))), op.bufs ⊆ Pipeline.ucRefs τ sig := fun op h =>
  Pipeline.sub_ucRefs op (List.forall_iff_forall_mem.mp (show (opsA : List (HloOp τ sig (Elt F))).Forall fun op => op.bufs ⊆ StableHlo.tcRefs τ sig by
    simp only [opsA, List.forall_cons, List.Forall, StableHlo.nullary_bufs_sub, StableHlo.unary_bufs_sub, StableHlo.binary_bufs_sub, StableHlo.reshape_bufs_sub,
      and_self]) op h)

theorem offB (V : Valuation τ sig (Elt F)) {r : Ref sig .tc} (hr : r ∉ wB) : after opsB V (dr r) = V (dr r) :=
  StableHlo.after_of_writes_sub opsB V (StableHlo.forall_writes_sub_of_map rfl) hr
theorem freshB : ∀ op ∈ (opsB : List (HloOp τ sig (Elt F))), op.fresh = ∅ :=
  List.forall_iff_forall_mem.mp (StableHlo.forall_fresh_of_map rfl)
theorem subB : ∀ op ∈ (opsB : List (HloOp τ sig (Elt F))), op.bufs ⊆ Pipeline.ucRefs τ sig := fun op h =>
  Pipeline.sub_ucRefs op (List.forall_iff_forall_mem.mp (show (opsB : List (HloOp τ sig (Elt F))).Forall fun op => op.bufs ⊆ StableHlo.tcRefs τ sig by
    simp only [opsB, List.forall_cons, List.Forall, StableHlo.nullary_bufs_sub, StableHlo.unary_bufs_sub, StableHlo.binary_bufs_sub, StableHlo.reshape_bufs_sub,
      and_self]) op h)

theorem offC (V : Valuation τ sig (Elt F)) {r : Ref sig .tc} (hr : r ∉ wC) : after opsC V (dr r) = V (dr r) :=
  StableHlo.after_of_writes_sub opsC V (StableHlo.forall_writes_sub_of_map rfl) hr
theorem freshC : ∀ op ∈ (opsC : List (HloOp τ sig (Elt F))), op.fresh = ∅ :=
  List.forall_iff_forall_mem.mp (StableHlo.forall_fresh_of_map rfl)
theorem subC : ∀ op ∈ (opsC : List (HloOp τ sig (Elt F))), op.bufs ⊆ Pipeline.ucRefs τ sig := fun op h =>
  Pipeline.sub_ucRefs op (List.forall_iff_forall_mem.mp (show (opsC : List (HloOp τ sig (Elt F))).Forall fun op => op.bufs ⊆ StableHlo.tcRefs τ sig by
    simp only [opsC, List.forall_cons, List.Forall, StableHlo.nullary_bufs_sub, StableHlo.unary_bufs_sub, StableHlo.binary_bufs_sub, StableHlo.reshape_bufs_sub,
      and_self]) op h)

theorem offD (V : Valuation τ sig (Elt F)) {r : Ref sig .tc} (hr : r ∉ wD) : after opsD V (dr r) = V (dr r) :=
  StableHlo.after_of_writes_sub opsD V (StableHlo.forall_writes_sub_of_map rfl) hr
theorem freshD : ∀ op ∈ (opsD : List (HloOp τ sig (Elt F))), op.fresh = ∅ :=
  List.forall_iff_forall_mem.mp (StableHlo.forall_fresh_of_map rfl)
theorem subD : ∀ op ∈ (opsD : List (HloOp τ sig (Elt F))), op.bufs ⊆ Pipeline.ucRefs τ sig := fun op h =>
  Pipeline.sub_ucRefs op (List.forall_iff_forall_mem.mp (show (opsD : List (HloOp τ sig (Elt F))).Forall fun op => op.bufs ⊆ StableHlo.tcRefs τ sig by
    simp only [opsD, List.forall_cons, List.Forall, StableHlo.nullary_bufs_sub, StableHlo.unary_bufs_sub, StableHlo.binary_bufs_sub, StableHlo.reshape_bufs_sub,
      and_self]) op h)

end Cert.Proof.Mov

end
-- ==== Proof.Index.lean ====
/-
  The index arithmetic: the row and the quarter of the packed table that an index names.
-/
module

public import proofs.«01_k».proof.Proof.Ops
public import Idealize.ShloMosaic.Lib.ReduceAll
public import proofs.«01_k».proof.Pre_in_range

@[expose] public section

noncomputable section

namespace Cert.Proof.Mov

open Cert.KernelIdeal Cert.KernelIdeal.Gen
open Idealize.ShloMosaic

/-- A non-negative word's arithmetic shift is a division. -/
theorem shrsi_toNat (v : BitVec 32) (h : v.toNat < 2 ^ 31) (k : BitVec 32) (hk : k.toNat < 32) :
    (IntOp.shrsi .host v k).toNat = v.toNat / 2 ^ k.toNat := by
  have hm : v.msb = false := by
    rw [BitVec.msb_eq_decide]; simp only [decide_eq_false_iff_not, not_le]; omega
  rw [IntOp.shrsi, if_pos hk, BitVec.sshiftRight', BitVec.sshiftRight_eq_of_msb_false hm, BitVec.toNat_ushiftRight, Nat.shiftRight_eq_div_pow]

theorem andi_mask (v : BitVec 32) (w : BitVec 32) (n : ℕ) (hw : w.toNat = 2 ^ n - 1) : (IntOp.andi v w).toNat = v.toNat % 2 ^ n := by
  rw [IntOp.andi, BitVec.toNat_and, hw, Nat.and_two_pow_sub_one_eq_mod]

/-- The row that an index names. -/
theorem rowsOf_toNat (x : IVec S16384 32) (i : S16384.Idx) (h : (x i).toNat < 2 ^ 31) :
    (rowsOf x i).toNat = (x i).toNat / 65536 * 16384 + (x i).toNat % 16384 := by
  simp only [rowsOf, addi, muli, andi, Host.shrsi, broadcastInDim, constantI]
  have h1 : (IntOp.shrsi .host (x i) 16#32).toNat = (x i).toNat / 65536 := shrsi_toNat (x i) h 16#32 (by decide)
  have h2 := andi_mask (x i) 16383#32 14 (by decide)
  rw [IntOp.addi, IntOp.muli, BitVec.toNat_add, BitVec.toNat_mul, h1, h2]
  rw [show (16384#32 : BitVec 32).toNat = 16384 from rfl]
  omega

/-- The quarter that an index names. -/
theorem quartersOf_toNat (x : IVec S16384 32) (i : S16384.Idx) :
    (quartersOf x i).toNat = (x i).toNat % 65536 / 16384 := by
  simp only [quartersOf, andi, Host.shrsi, broadcastInDim, constantI]
  have h2 := andi_mask (x i) 65535#32 16 (by decide)
  rw [shrsi_toNat _ (by rw [h2]; omega) 14#32 (by decide), h2]
  rfl

/-- The precondition puts every user index below a million and every movie index below a hundred thousand. -/
theorem ranges {F : FTy → Type} [FloatOps F] (a0 a1 : IVec S16384 32) (a2 : FVec F S1000000x32 .f32) (a3 : FVec F S100000x32 .f32) (a4 : FVec F S128x64 .f32)
    (a5 : FVec F S128 .f32) (a6 : FVec F S64x128 .f32) (a7 : FVec F S64 .f32) (a8 : FVec F S1x64 .f32) (a9 : FVec F S1 .f32)
    [Cert.Pre_in_range.Facts] (h : Cert.Pre_in_range.fn (F := F) a0 a1 a2 a3 a4 a5 a6 a7 a8 a9 = fun _ => 1#1) (i : S16384.Idx) :
    (a0 i).toNat < 1000000 ∧ (a1 i).toNat < 100000 := by
  have both (p q : BitVec 1) : IntOp.andi p q = 1#1 → p = 1#1 ∧ q = 1#1 := by revert p q; decide
  have key (v : BitVec 32) (n : ℕ) (hn : n < 2 ^ 31) (e : IntOp.andi (IntOp.cmpi .sge v 0#32) (IntOp.cmpi .slt v (BitVec.ofNat 32 n)) = 1#1) : v.toNat < n := by
    obtain ⟨e1, e2⟩ := both _ _ e
    have ofBool (p : Bool) : (BitVec.ofBool p = 1#1) ↔ p = true := by cases p <;> decide
    simp only [IntOp.cmpi, ofBool, BitVec.sle_eq_decide, BitVec.slt_eq_decide, decide_eq_true_eq, BitVec.toInt_eq_toNat_cond, BitVec.toNat_ofNat] at e1 e2
    have : n % 2 ^ 32 = n := Nat.mod_eq_of_lt (by omega)
    rw [this] at e2
    omega
  have e := congrFun h (fun a => a.elim0)
  dsimp only [Cert.Pre_in_range.fn] at e
  obtain ⟨e0, e1⟩ := both _ _ e
  exact ⟨key _ 1000000 (by decide) (Host.reduce_andi_all _ _ _ _ _ e0 i), key _ 100000 (by decide) (Host.reduce_andi_all _ _ _ _ _ e1 i)⟩

end Cert.Proof.Mov

end
-- ==== Proof.Main.lean ====
/-
  The program's run: the main thread between and through its three regions and two SparseCore calls, and what the final
  memory holds.
-/
module

public import proofs.«01_k».proof.Proof.Index
public import Idealize.ShloMosaic.Lib.SparseCore.Quiescent

@[expose] public section

noncomputable section

namespace Cert.Proof.Mov

open Cert.KernelIdeal Cert.KernelIdeal.Gen

open Idealize.ShloMosaic
open Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.StableHlo (held after seq seqK)

variable {F : FTy → Type} [FloatOps F] [∀ e, Nonempty (Elt F e)]

local notation "𝕄" => MT nD τ sig (HIx 2) (Elt F) ℕ UU ℕ

/-! ## The main thread's steps -/

/-- What the TensorCore owes, out of its state between calls, and back. -/
theorem tcSt_owed (d : Dev nD) (n : ℕ) : (K (F := F)).tcSt EH d n
    ⊢ (iprop(owed (F := F) d n ∗ (owed (F := F) d n -∗ (K (F := F)).tcSt EH d n)) : sProp 𝕄) := by
  unfold SparseCore.Cfg.tcSt owed
  iintro ⟨H1, H2⟩
  isplitl [H1]; · iexact H1
  iintro H1
  isplitl [H1]; · iexact H1
  iexact H2

/-- A line of host operations at the head of the main thread. -/
theorem host (d : Dev nD) {S : Finset (DevRef τ sig)} (ops : List (HloOp τ sig (Elt F))) (hS : ∀ op ∈ ops, op.bufs ⊆ S) (hf : ∀ op ∈ ops, op.fresh = ∅)
    (V : Valuation τ sig (Elt F)) (k : Prog (TpuEff nD τ sig (Elt F) (SparseCore.Sig (Pipeline.Sig Λ₀ (Fin 3) fun p => (pcfgs (F := F) p).Adm) 2) .tc) PUnit)
    (Q : PUnit → sProp 𝕄) :
    iprop(boundary (d.tc : Thread nD τ) ∗ held (d.tc : Thread nD τ) S V
        ∗ (boundary (d.tc : Thread nD τ) -∗ held (d.tc : Thread nD τ) S (after ops V) -∗ wp frame (wpE ((K (F := F)).defs D) 𝒱 (T d) none) Set.univ k Q))
      ⊢ wp frame (wpE ((K (F := F)).defs D) 𝒱 (T d) none) Set.univ (seqK ops k) Q := by
  rw [← StableHlo.seq_bind_seqK]
  iintro ⟨Hb, H, Hk⟩
  iapply (StableHlo.wp_seq (defs := (K (F := F)).defs D) 𝒱 none Set.univ d S (fun _ => k) (K := Q) ops hS hf V) $$ [Hb H]
  · isplitl [Hb]; · iexact Hb
    iexact H
  iintro ⟨Hb, H⟩
  iapply Hk $$ Hb H

/-- The buffers the main thread holds after the movie call: it gives up the packed table and the list. -/
abbrev S₁ : Finset (DevRef τ sig) := ((ucRefs τ sig).erase (dr main_v4_0)).erase (dr main_v20)
/-- And after the user call. -/
abbrev S₂ : Finset (DevRef τ sig) := (S₁.erase (dr main_v6)).erase (dr main_v13)

theorem mem_S₁ (b : Ref sig .tc) (h : b.isScoped = false) (h1 : b ≠ main_v4_0) (h2 : b ≠ main_v20) : dr b ∈ S₁ :=
  Finset.mem_erase.mpr ⟨StableHlo.devRef_ne_of_ne h2, mem_uc' b main_v4_0 h h1⟩
theorem mem_S₂ (b : Ref sig .tc) (h : b.isScoped = false) (h1 : b ∉ [main_v4_0, main_v20, main_v6, main_v13]) : dr b ∈ S₂ := by
  simp only [List.mem_cons, List.not_mem_nil, or_false, not_or] at h1
  exact Finset.mem_erase.mpr ⟨StableHlo.devRef_ne_of_ne h1.2.2.2, Finset.mem_erase.mpr ⟨StableHlo.devRef_ne_of_ne h1.2.2.1, mem_S₁ b h h1.1 h1.2.1⟩⟩

section
variable (κ : Known (F := F)) (d : Dev nD) (V : Valuation τ sig (Elt F)) (κn : GSem nD τ sig → ℕ)

theorem deal0 (hT : κ.PM d (V (dr main_v4_0))) (hg : V (dr main_v20) = κ.gM d) :
    (iprop((((d, dr main_v4_0) : Loc nD τ sig) ↦{fullShare} V (dr main_v4_0)) ∗ (((d, dr main_v20) : Loc nD τ sig) ↦{fullShare} V (dr main_v20))
      ∗ (((d, dr main_v29) : Loc nD τ sig) ↦{fullShare} V (dr main_v29))) : sProp 𝕄)
    ⊢ bigSep Finset.univ fun c : Fin ((K (F := F)).nCore 0) => (P κ).st 0 d c := by
  rw [hg]
  exact deal (tl := Movie.tLoc d) (il := Movie.iLoc d) (ol := Movie.oLoc d) (fun w => (lRect w).set) (fun k => (oRect k).set)
    lRect_disjoint lRect_cover oRect_disjoint oRect_cover (κ.PM d) (κ.gM d) (V (dr main_v4_0)) hT (V (dr main_v29))

theorem join0 : (bigSep Finset.univ fun c : Fin ((K (F := F)).nCore 0) => (P κ).dn 0 d c)
    ⊢ (iprop(∃ G, ⌜∀ x, Movie.Has κ.PM κ.gM d G x⌝ ∗ (((d, dr main_v29) : Loc nD τ sig) ↦{fullShare} G)) : sProp 𝕄) :=
  join (ol := Movie.oLoc d) (fun k => (oRect k).set) oRect_disjoint oRect_cover (Movie.Has κ.PM κ.gM d)
    (fun f f' x e h => by obtain ⟨T, hT, h⟩ := h; exact ⟨T, hT, e.trans h⟩)

/-- The movie call: the packed table and the list handed over, the gathered rows taken back. -/
theorem call0 (hT : κ.PM d (V (dr main_v4_0))) (hg : V (dr main_v20) = κ.gM d) (Q : PUnit → sProp 𝕄) :
    iprop((K (F := F)).ctx EH (P κ) κn ∗ (K (F := F)).tcSt EH d 0 ∗ held (d.tc : Thread nD τ) (ucRefs τ sig) V
        ∗ (∀ G, ⌜∀ x, Movie.Has κ.PM κ.gM d G x⌝ -∗ (K (F := F)).tcSt EH d 1 -∗ held (d.tc : Thread nD τ) S₁ (Function.update V (dr main_v29) G) -∗ Q ⟨⟩))
      ⊢ wp frame (wpE ((K (F := F)).defs D) 𝒱 (T d) none) Set.univ ((K (F := F)).run d 0) Q := by
  iintro ⟨Hc, Ht, H, Hk⟩
  ihave H := (held_take (F := F) d (mem_uc main_v4_0 (by decide)) V) $$ H
  icases H with ⟨HT, H⟩
  ihave H := (held_take (F := F) d (mem_uc' main_v20 main_v4_0 (by decide) (by decide)) V) $$ H
  icases H with ⟨Hg, H⟩
  ihave H := (held_take (F := F) d (mem_S₁ main_v29 (by decide) (by decide) (by decide)) V) $$ H
  icases H with ⟨Ho, H⟩
  iapply ((K (F := F)).wp_run (D (F := F)) 𝒱 (EH := EH) (P := P κ) κn d 0)
  isplitl [Hc]; · iexact Hc
  isplitl [Ht]; · iexact Ht
  isplitl [HT Hg Ho]
  · iapply (deal0 κ d V hT hg)
    isplitl [HT]; · iexact HT
    isplitl [Hg]; · iexact Hg
    iexact Ho
  iintro ⟨Ht, Hd⟩
  ihave Ht := (Entails.of_eq (show (K (F := F)).tcSt EH d (((0 : Fin 2) : ℕ) + 1) = (K (F := F)).tcSt EH d 1 from rfl)) $$ Ht
  ihave Hd := (join0 κ d) $$ Hd
  icases Hd with ⟨%G, %hG, Ho⟩
  ihave H := (held_put (F := F) d (mem_S₁ main_v29 (by decide) (by decide) (by decide)) V G) $$ [Ho H]
  · isplitl [Ho]; · iexact Ho
    iexact H
  iapply Hk $$ %G %hG Ht H

theorem deal1 (hT : κ.PU d (V (dr main_v6))) (hg : V (dr main_v13) = κ.gU d) :
    (iprop((((d, dr main_v6) : Loc nD τ sig) ↦{fullShare} V (dr main_v6)) ∗ (((d, dr main_v13) : Loc nD τ sig) ↦{fullShare} V (dr main_v13))
      ∗ (((d, dr main_v30) : Loc nD τ sig) ↦{fullShare} V (dr main_v30))) : sProp 𝕄)
    ⊢ bigSep Finset.univ fun c : Fin ((K (F := F)).nCore 1) => (P κ).st 1 d c := by
  rw [hg]
  exact deal (tl := User.tLoc d) (il := User.iLoc d) (ol := User.oLoc d) (fun w => (lRect w).set) (fun k => (oRect k).set)
    lRect_disjoint lRect_cover oRect_disjoint oRect_cover (κ.PU d) (κ.gU d) (V (dr main_v6)) hT (V (dr main_v30))

theorem join1 : (bigSep Finset.univ fun c : Fin ((K (F := F)).nCore 1) => (P κ).dn 1 d c)
    ⊢ (iprop(∃ G, ⌜∀ x, User.Has κ.PU κ.gU d G x⌝ ∗ (((d, dr main_v30) : Loc nD τ sig) ↦{fullShare} G)) : sProp 𝕄) :=
  join (ol := User.oLoc d) (fun k => (oRect k).set) oRect_disjoint oRect_cover (User.Has κ.PU κ.gU d)
    (fun f f' x e h => by obtain ⟨T, hT, h⟩ := h; exact ⟨T, hT, e.trans h⟩)

/-- The user call: the packed table and the list handed over, the gathered rows taken back. -/
theorem call1 (hT : κ.PU d (V (dr main_v6))) (hg : V (dr main_v13) = κ.gU d) (Q : PUnit → sProp 𝕄) :
    iprop((K (F := F)).ctx EH (P κ) κn ∗ (K (F := F)).tcSt EH d 1 ∗ held (d.tc : Thread nD τ) S₁ V
        ∗ (∀ G, ⌜∀ x, User.Has κ.PU κ.gU d G x⌝ -∗ (K (F := F)).tcSt EH d 2 -∗ held (d.tc : Thread nD τ) S₂ (Function.update V (dr main_v30) G) -∗ Q ⟨⟩))
      ⊢ wp frame (wpE ((K (F := F)).defs D) 𝒱 (T d) none) Set.univ ((K (F := F)).run d 1) Q := by
  iintro ⟨Hc, Ht, H, Hk⟩
  ihave H := (held_take (F := F) d (mem_S₁ main_v6 (by decide) (by decide) (by decide)) V) $$ H
  icases H with ⟨HT, H⟩
  ihave H := (held_take (F := F) d (Finset.mem_erase.mpr ⟨StableHlo.devRef_ne_of_ne (by decide : main_v13 ≠ main_v6), mem_S₁ main_v13 (by decide) (by decide) (by decide)⟩) V) $$ H
  icases H with ⟨Hg, H⟩
  ihave H := (held_take (F := F) d (mem_S₂ main_v30 (by decide) (by decide)) V) $$ H
  icases H with ⟨Ho, H⟩
  iapply ((K (F := F)).wp_run (D (F := F)) 𝒱 (EH := EH) (P := P κ) κn d 1)
  isplitl [Hc]; · iexact Hc
  isplitl [Ht]; · iexact Ht
  isplitl [HT Hg Ho]
  · iapply (deal1 κ d V hT hg)
    isplitl [HT]; · iexact HT
    isplitl [Hg]; · iexact Hg
    iexact Ho
  iintro ⟨Ht, Hd⟩
  ihave Ht := (Entails.of_eq (show (K (F := F)).tcSt EH d (((1 : Fin 2) : ℕ) + 1) = (K (F := F)).tcSt EH d 2 from rfl)) $$ Ht
  ihave Hd := (join1 κ d) $$ Hd
  icases Hd with ⟨%G, %hG, Ho⟩
  ihave H := (held_put (F := F) d (mem_S₂ main_v30 (by decide) (by decide)) V G) $$ [Ho H]
  · isplitl [Ho]; · iexact Ho
    iexact H
  iapply Hk $$ %G %hG Ht H

end

end Cert.Proof.Mov

end
-- ==== Proof.Run.lean ====
/-
  The program's run from any launch memory whose indices are in range: its arguments unchanged, and its result computed
  from the packed tables' gathered rows.
-/
module

public import proofs.«01_k».proof.Proof.Main

@[expose] public section

noncomputable section

namespace Cert.Proof.Mov

open Cert.KernelIdeal Cert.KernelIdeal.Gen

open Idealize.ShloMosaic
open Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Idealize.ShloMosaic.StableHlo (held after seq seqK)

variable {F : FTy → Type} [FloatOps F] [∀ e, Nonempty (Elt F e)]

local notation "𝕄" => MT nD τ sig (HIx 2) (Elt F) ℕ UU ℕ

/-! ## What the host's buffers hold along the run -/

section
variable (V : Valuation τ sig (Elt F)) (G0 : FVec F S32768x128 .f32) (G1 : FVec F S262144x128 .f32) (Gm Gu : FVec F S16384x128 .f32)

/-- After the movie table's repack. -/
def V2 : Valuation τ sig (Elt F) := Function.update (after opsA V) (dr main_v2) G0
/-- After the user table's repack. -/
def V4 : Valuation τ sig (Elt F) := Function.update (after opsB (V2 V G0)) (dr main_v6) G1
/-- Before the gathers. -/
def V5 : Valuation τ sig (Elt F) := after opsC (V4 V G0 G1)
/-- After the movie gather. -/
def V6 : Valuation τ sig (Elt F) := Function.update (V5 V G0 G1) (dr main_v29) Gm
/-- After both gathers. -/
def V7 : Valuation τ sig (Elt F) := Function.update (V6 V G0 G1 Gm) (dr main_v30) Gu
/-- Before the last region. -/
def V8 : Valuation τ sig (Elt F) := after opsD (V7 V G0 G1 Gm Gu)

theorem V2_off {r : Ref sig .tc} (h : r ∉ wA) (h2 : r ≠ main_v2) : V2 V G0 (dr r) = V (dr r) :=
  (Function.update_of_ne (StableHlo.devRef_ne_of_ne h2) _ _).trans (offA V h)
theorem V4_off {r : Ref sig .tc} (h : r ∉ wB) (h6 : r ≠ main_v6) : V4 V G0 G1 (dr r) = V2 V G0 (dr r) :=
  (Function.update_of_ne (StableHlo.devRef_ne_of_ne h6) _ _).trans (offB _ h)
theorem V5_off {r : Ref sig .tc} (h : r ∉ wC) : V5 V G0 G1 (dr r) = V4 V G0 G1 (dr r) := offC _ h
theorem V6_off {r : Ref sig .tc} (h : r ≠ main_v29) : V6 V G0 G1 Gm (dr r) = V5 V G0 G1 (dr r) :=
  Function.update_of_ne (StableHlo.devRef_ne_of_ne h) _ _
theorem V7_off {r : Ref sig .tc} (h : r ≠ main_v30) : V7 V G0 G1 Gm Gu (dr r) = V6 V G0 G1 Gm (dr r) :=
  Function.update_of_ne (StableHlo.devRef_ne_of_ne h) _ _
theorem V8_off {r : Ref sig .tc} (h : r ∉ wD) : V8 V G0 G1 Gm Gu (dr r) = V7 V G0 G1 Gm Gu (dr r) := offD _ h

/-- An untouched buffer before the gathers. -/
theorem V4_arg {r : Ref sig .tc} (hA : r ∉ wA) (h2 : r ≠ main_v2) (hB : r ∉ wB) (h6 : r ≠ main_v6) : V4 V G0 G1 (dr r) = V (dr r) :=
  (V4_off V G0 G1 hB h6).trans (V2_off V G0 hA h2)
/-- An untouched buffer before the last line. -/
theorem V7_arg {r : Ref sig .tc} (hA : r ∉ wA) (h2 : r ≠ main_v2) (hB : r ∉ wB) (h6 : r ≠ main_v6) (hC : r ∉ wC) (h29 : r ≠ main_v29) (h30 : r ≠ main_v30) :
    V7 V G0 G1 Gm Gu (dr r) = V (dr r) :=
  (V7_off V G0 G1 Gm Gu h30).trans ((V6_off V G0 G1 Gm h29).trans ((V5_off V G0 G1 hC).trans (V4_arg V G0 G1 hA h2 hB h6)))

theorem V5_v4_0 : V5 V G0 G1 (dr main_v4_0) = G0 :=
  (V5_off V G0 G1 (by decide)).trans ((Function.update_of_ne (StableHlo.devRef_ne_of_ne (by decide)) _ _).trans
    ((afterB_v4_0 _).trans (Function.update_self _ _ _)))
theorem V6_v6 : V6 V G0 G1 Gm (dr main_v6) = G1 :=
  (V6_off V G0 G1 Gm (by decide)).trans ((V5_off V G0 G1 (by decide)).trans (Function.update_self _ _ _))
theorem V5_v20 : V5 V G0 G1 (dr main_v20) = rowsOf (V (dr main_arg1)) :=
  (afterC_v20 _).trans (congrArg rowsOf (V4_arg V G0 G1 (r := main_arg1) (by decide) (by decide) (by decide) (by decide)))
theorem V6_v13 : V6 V G0 G1 Gm (dr main_v13) = rowsOf (V (dr main_arg0)) :=
  (V6_off V G0 G1 Gm (by decide)).trans ((afterC_v13 _).trans
    (congrArg rowsOf (V4_arg V G0 G1 (r := main_arg0) (by decide) (by decide) (by decide) (by decide))))
theorem V2_v5 : after opsB (V2 V G0) (dr main_v5) = splitU (V (dr main_arg2)) :=
  (afterB_v5 _).trans (congrArg splitU (V2_off V G0 (r := main_arg2) (by decide) (by decide)))

theorem V8_v29 : V8 V G0 G1 Gm Gu (dr main_v29) = Gm :=
  (V8_off V G0 G1 Gm Gu (by decide)).trans ((V7_off V G0 G1 Gm Gu (by decide)).trans (Function.update_self _ _ _))
theorem V8_v30 : V8 V G0 G1 Gm Gu (dr main_v30) = Gu := (V8_off V G0 G1 Gm Gu (by decide)).trans (Function.update_self _ _ _)
theorem V8_v24 : V8 V G0 G1 Gm Gu (dr main_v24) = quartersOf (V (dr main_arg0)) :=
  (V8_off V G0 G1 Gm Gu (by decide)).trans ((V7_off V G0 G1 Gm Gu (by decide)).trans ((V6_off V G0 G1 Gm (by decide)).trans ((afterC_v24 _).trans
    (congrArg quartersOf (V4_arg V G0 G1 (r := main_arg0) (by decide) (by decide) (by decide) (by decide))))))
theorem V8_v28 : V8 V G0 G1 Gm Gu (dr main_v28) = quartersOf (V (dr main_arg1)) :=
  (V8_off V G0 G1 Gm Gu (by decide)).trans ((V7_off V G0 G1 Gm Gu (by decide)).trans ((V6_off V G0 G1 Gm (by decide)).trans ((afterC_v28 _).trans
    (congrArg quartersOf (V4_arg V G0 G1 (r := main_arg1) (by decide) (by decide) (by decide) (by decide))))))

end

/-! ## What the launch is known to hold -/

variable (m : (ℓ : Loc nD τ sig) → Buf (Elt F) ℓ)

/-- Every index names a row of its table. -/
def InRange : Prop := ∀ (d : Dev nD) (i : S16384.Idx),
  ((m (d, dr main_arg0) : IVec S16384 32) i).toNat < 1000000 ∧ ((m (d, dr main_arg1) : IVec S16384 32) i).toNat < 100000

variable (hr : InRange m)

/-- The packed tables and the lists that the two gathers read. -/
def known : Known (F := F) where
  PM := fun d G => Blk0 d (splitM (m (d, dr main_arg3))) G
  PU := fun d G => Blk1 d (splitU (m (d, dr main_arg2))) G
  gM := fun d => rowsOf (m (d, dr main_arg1))
  gU := fun d => rowsOf (m (d, dr main_arg0))
  hgM := fun d x => by have h := (hr d x).2; rw [rowsOf_toNat _ _ (by omega)]; omega
  hgU := fun d x => by have h := (hr d x).1; rw [rowsOf_toNat _ _ (by omega)]; omega

/-- The buffers that the last region reads, and the arguments. -/
structure Ready (d : Dev nD) (V : Valuation τ sig (Elt F)) : Prop where
  movie : ∀ x, Movie.Has (known m hr).PM (known m hr).gM d (V (dr main_v29)) x
  user : ∀ x, User.Has (known m hr).PU (known m hr).gU d (V (dr main_v30)) x
  subU : V (dr main_v24) = quartersOf (m (d, dr main_arg0))
  subM : V (dr main_v28) = quartersOf (m (d, dr main_arg1))
  lo : V (dr main_v31) = extractStridedSlice S128x32 ![0, 0] (m (d, dr main_arg4)) slices_S128x64_S128x32_0_0
  hi : V (dr main_v32) = extractStridedSlice S128x32 ![0, 32] (m (d, dr main_arg4)) slices_S128x64_S128x32_0_32
  args : ∀ b ∈ [main_arg0, main_arg1, main_arg2, main_arg3, main_arg4, main_arg5, main_arg6, main_arg7, main_arg8, main_arg9], V (dr b) = m (d, dr b)

abbrev V₀ (d : Dev nD) : Valuation τ sig (Elt F) := fun b => m (d, b)

theorem ready (d : Dev nD) (G0 : FVec F S32768x128 .f32) (G1 : FVec F S262144x128 .f32) (Gm Gu : FVec F S16384x128 .f32)
    (hm : ∀ x, Movie.Has (known m hr).PM (known m hr).gM d Gm x) (hu : ∀ x, User.Has (known m hr).PU (known m hr).gU d Gu x) :
    Ready m hr d (V8 (V₀ m d) G0 G1 Gm Gu) where
  movie := by rw [V8_v29]; exact hm
  user := by rw [V8_v30]; exact hu
  subU := V8_v24 _ _ _ _ _
  subM := V8_v28 _ _ _ _ _
  lo := (afterD_v31 _).trans (congrArg (extractStridedSlice S128x32 ![0, 0] · slices_S128x64_S128x32_0_0)
    (V7_arg _ _ _ _ _ (r := main_arg4) (by decide) (by decide) (by decide) (by decide) (by decide) (by decide) (by decide)))
  hi := (afterD_v32 _).trans (congrArg (extractStridedSlice S128x32 ![0, 32] · slices_S128x64_S128x32_0_32)
    (V7_arg _ _ _ _ _ (r := main_arg4) (by decide) (by decide) (by decide) (by decide) (by decide) (by decide) (by decide)))
  args := fun b hb => by
    have key : ∀ b ∈ [main_arg0, main_arg1, main_arg2, main_arg3, main_arg4, main_arg5, main_arg6, main_arg7, main_arg8, main_arg9],
        b ∉ wA ∧ b ≠ main_v2 ∧ b ∉ wB ∧ b ≠ main_v6 ∧ b ∉ wC ∧ b ≠ main_v29 ∧ b ≠ main_v30 ∧ b ∉ wD := by decide
    obtain ⟨hA, h2, hB, h6, hC, h29, h30, hD⟩ := key b hb
    exact (V8_off _ _ _ _ _ hD).trans (V7_arg _ _ _ _ _ hA h2 hB h6 hC h29 h30)

/-! ## The main thread -/

theorem subD' : ∀ op ∈ (opsD : List (HloOp τ sig (Elt F))), op.bufs ⊆ S₂ := by
  have h4 := mem_S₂ main_arg4 (by decide) (by decide)
  have h1 := mem_S₂ main_v31 (by decide) (by decide)
  have h2 := mem_S₂ main_v32 (by decide) (by decide)
  intro op hop
  simp only [opsD, List.mem_cons, List.not_mem_nil, or_false] at hop
  rcases hop with rfl | rfl
  · intro b hb
    rcases Finset.mem_insert.mp hb with rfl | hb
    · exact h4
    · rw [Finset.mem_singleton.mp hb]; exact h1
  · intro b hb
    rcases Finset.mem_insert.mp hb with rfl | hb
    · exact h4
    · rw [Finset.mem_singleton.mp hb]; exact h2

theorem arrRefs2_sub' : Pipeline.arrRefs (τ := τ) cfg4.spec ⊆ S₂ := by
  intro b hb
  obtain ⟨r, hr, rfl⟩ := Finset.mem_map.mp hb
  obtain ⟨w, -, rfl⟩ := Finset.mem_image.mp hr
  have key : ∀ w : Fin cfg4.W, (arrRef cfg4.spec w).isScoped = false ∧ arrRef cfg4.spec w ∉ [main_v4_0, main_v20, main_v6, main_v13] := by decide
  exact mem_S₂ _ (key w).1 (key w).2

/-- What the main thread ends with. -/
def FIN (d : Dev nD) : sProp 𝕄 :=
  iprop(∃ V G, ⌜Ready m hr d V ∧ Blk2 d (arrOf cfg4 V d) G⌝ ∗ held (d.tc : Thread nD τ) S₂ (Function.update V (dr main_v33) G))

theorem main_eq (d : Dev nD) : main (F := F) d = seqK opsA (Prog.lift (.customCall (SparseCore.inner (Pipeline.entry 0)) ()) >>= fun _ =>
    seqK opsB (Prog.lift (.customCall (SparseCore.inner (Pipeline.entry 1)) ()) >>= fun _ =>
    seqK opsC ((K (F := F)).run d 0 >>= fun _ => (K (F := F)).run d 1 >>= fun _ =>
    seqK opsD (Prog.lift (.customCall (SparseCore.inner (Pipeline.entry 2)) ()) >>= fun _ => pure ⟨⟩)))) := rfl

variable (ρ : Dev nD → PrngReg)

/-- The main thread, from the launch's buffers. -/
theorem hmain (κn : GSem nD τ sig → ℕ) (d : Dev nD) :
    iprop((K (F := F)).ctx EH (P (known m hr)) κn ∗ (K (F := F)).tcSt EH d 0 ∗ (K (F := F)).tcRes m ρ d
        ∗ bigSep Finset.univ fun p : Fin 3 => dealt (F := F) p d)
      ⊢ wp frame (wpE ((K (F := F)).defs D) 𝒱 (T d) none) Set.univ (main d)
          fun _ => iprop((K (F := F)).tcSt EH d 2 ∗ FIN m hr d ∗ (K (F := F)).tcEnd d) := by
  have e3 : (bigSep Finset.univ fun p : Fin 3 => dealt (F := F) p d) = iprop(dealt (F := F) 0 d ∗ dealt (F := F) 1 d ∗ dealt (F := F) 2 d) := by
    rw [show (Finset.univ : Finset (Fin 3)) = {0, 1, 2} by decide, SparseCore.bigSep_insert' (by decide), SparseCore.bigSep_insert' (by decide), bigSep_singleton]
  unfold SparseCore.Cfg.tcRes SparseCore.Cfg.tcEnd
  rw [main_eq, e3]
  have eh : (unscopedBufs d fun b => m ((d.tc : Thread nD τ).loc b) : sProp 𝕄) = held (d.tc : Thread nD τ) (ucRefs τ sig) (V₀ m d) :=
    Pipeline.unscopedBufs_held (Ix := HIx 2) (Name := ℕ) (U := UU) (Lvl := ℕ) d (V₀ m d)
  rw [eh]
  iintro ⟨#Hc, Ht, ⟨Hb, H, Hs, -⟩, Hd0, Hd1, Hd2⟩
  ihave #Hl := ((K (F := F)).ctx_levAts κn) $$ Hc
  ihave Ht := (tcSt_owed (F := F) d 0) $$ Ht
  icases Ht with ⟨Ho, Ht⟩
  iapply (host d opsA subA freshA (V₀ m d) _ _)
  isplitl [Hb]; · iexact Hb
  isplitl [H]; · iexact H
  iintro Hb H
  iapply (Entails.of_eq (wp_bind ..).symm)
  iapply (repack0 (F := F) (after opsA (V₀ m d)) 0 d _)
  isplitl [Hb]; · iexact Hb
  isplitl [H]; · iexact H
  isplitl [Ho]; · iexact Ho
  isplitr; · iexact Hl
  isplitl [Hd0]; · iexact Hd0
  iintro %G0 %h0 Hb H Ho
  iapply (host d opsB subB freshB (V2 (V₀ m d) G0) _ _)
  isplitl [Hb]; · iexact Hb
  isplitl [H]; · iexact H
  iintro Hb H
  iapply (Entails.of_eq (wp_bind ..).symm)
  iapply (repack1 (F := F) (after opsB (V2 (V₀ m d) G0)) 0 d _)
  isplitl [Hb]; · iexact Hb
  isplitl [H]; · iexact H
  isplitl [Ho]; · iexact Ho
  isplitr; · iexact Hl
  isplitl [Hd1]; · iexact Hd1
  iintro %G1 %h1 Hb H Ho
  iapply (host d opsC subC freshC (V4 (V₀ m d) G0 G1) _ _)
  isplitl [Hb]; · iexact Hb
  isplitl [H]; · iexact H
  iintro Hb H
  ihave Ht := Ht $$ Ho
  iapply (Entails.of_eq (wp_bind ..).symm)
  have hM : (known m hr).PM d (V5 (V₀ m d) G0 G1 (dr main_v4_0)) := by
    rw [V5_v4_0]; rw [afterA_v1] at h0; exact h0
  iapply (call0 (known m hr) d (V5 (V₀ m d) G0 G1) κn hM (V5_v20 _ _ _) _)
  isplitr; · iexact Hc
  isplitl [Ht]; · iexact Ht
  isplitl [H]; · iexact H
  iintro %Gm %hm Ht H
  iapply (Entails.of_eq (wp_bind ..).symm)
  have hU : (known m hr).PU d (V6 (V₀ m d) G0 G1 Gm (dr main_v6)) := by
    rw [V6_v6]; rw [V2_v5] at h1; exact h1
  iapply (call1 (known m hr) d (V6 (V₀ m d) G0 G1 Gm) κn hU (V6_v13 _ _ _ _) _)
  isplitr; · iexact Hc
  isplitl [Ht]; · iexact Ht
  isplitl [H]; · iexact H
  iintro %Gu %hu Ht H
  iapply (host d opsD subD' freshD (V7 (V₀ m d) G0 G1 Gm Gu) _ _)
  isplitl [Hb]; · iexact Hb
  isplitl [H]; · iexact H
  iintro Hb H
  ihave Ht := (tcSt_owed (F := F) d 2) $$ Ht
  icases Ht with ⟨Ho, Ht⟩
  iapply (Entails.of_eq (wp_bind ..).symm)
  iapply (mlp2 (F := F) (V8 (V₀ m d) G0 G1 Gm Gu) 2 d arrRefs2_sub' _)
  isplitl [Hb]; · iexact Hb
  isplitl [H]; · iexact H
  isplitl [Ho]; · iexact Ho
  isplitr; · iexact Hl
  isplitl [Hd2]; · iexact Hd2
  iintro %G %hG Hb H Ho
  ihave Ht := Ht $$ Ho
  rw [wp_pure]
  imodintro
  isplitl [Ht]; · iexact Ht
  isplitl [H]
  · unfold FIN
    iexists (V8 (V₀ m d) G0 G1 Gm Gu)
    iexists G
    isplitr; · ipureintro; exact ⟨ready m hr d G0 G1 Gm Gu hm hu, hG⟩
    iexact H
  isplitl [Hb]; · iexact Hb
  iexact Hs

/-! ## The launch -/

/-- The launch element: the handshakes' rounds and the regions'. -/
def u₀ : UU := (initOf (K (F := F)).hsCells (K (F := F)).hsToks,
  (initOf (Pipeline.cells (pin (pcfgs (F := F)) adm) cellOf_inj) (Pipeline.launchToks (pin (pcfgs (F := F)) adm) cellOf_inj), 1))

theorem hu₀ (κ : Known (F := F)) : (ownU (u₀ (F := F)) : sProp 𝕄)
    ⊢ |={Set.univ}=> iprop(BI.own (EH (initOf (K (F := F)).hsCells (K (F := F)).hsToks))
        ∗ (bigSep Finset.univ fun d : Dev nD => bigSep Finset.univ fun p : Fin 3 => dealt (F := F) p d)
        ∗ bigSep Finset.univ fun thr : Thread nD τ => bigSep Finset.univ fun q : Fin 2 => (P κ).x q thr) := by
  have ex : (bigSep Finset.univ fun thr : Thread nD τ => bigSep Finset.univ fun q : Fin 2 => (P (F := F) κ).x q thr) = iprop(emp) := by
    rw [show (bigSep Finset.univ fun thr : Thread nD τ => bigSep Finset.univ fun q : Fin 2 => (P (F := F) κ).x q thr) = bigSep Finset.univ fun _ => iprop(emp) from
      bigSep_congr fun _ _ => bigSep_emp_const _]
    exact bigSep_emp_const _
  have ed : (iprop((bigSep Finset.univ fun c : Dev nD => bigSep Finset.univ fun p : Fin 3 => Pipeline.cellsGhost (pin (pcfgs (F := F)) adm) (EP (F := F)) p c)
      ∗ (bigSep Finset.univ fun c : Dev nD => bigSep Finset.univ fun p : Fin 3 => Pipeline.toksInit (pin (pcfgs (F := F)) adm) (EP (F := F)) p c)) : sProp 𝕄)
      = bigSep Finset.univ fun d : Dev nD => bigSep Finset.univ fun p : Fin 3 => dealt (F := F) p d := by
    rw [← bigSep_sep']
    exact bigSep_congr fun c _ => by rw [← bigSep_sep']
  rw [ex]
  unfold u₀
  iintro Hu
  ihave H := (ownU_pair _ _) $$ Hu
  icases H with ⟨HH, HR⟩
  ihave HR := (own_pair_emb _ _ _) $$ HR
  icases HR with ⟨HP, -⟩
  have eP (a : UP) : (BI.own (((Emb.inl : Emb UP (UP × Counters)).trans embR) a) : sProp 𝕄) ⊢ BI.own (EP (F := F) a) := .rfl
  ihave HP := (eP _) $$ HP
  imod (Pipeline.fund_ghost (pin (pcfgs (F := F)) adm) (EP (F := F)) cellOf_inj) $$ HP with ⟨H1, H2⟩
  imodintro
  isplitl [HH]; · iexact HH
  isplitl [H1 H2]
  · iapply (Entails.of_eq ed)
    isplitl [H1]; · iexact H1
    iexact H2
  iempintro

/-! ## The final memory -/

/-- What the final memory of a device holds: the arguments as launched, and a result that the last region computes from ready buffers. -/
def fq (d : Dev nD) (s' : Phys nD τ sig (Elt F)) : Prop :=
  (∀ b ∈ [main_arg0, main_arg1, main_arg2, main_arg3, main_arg4, main_arg5, main_arg6, main_arg7, main_arg8, main_arg9],
    s'.mem.mem (d, dr b) = m (d, dr b))
  ∧ ∃ V, Ready m hr d V ∧ Blk2 d (arrOf cfg4 V d) (s'.mem.mem (d, dr main_v33))

theorem hfin (d : Dev nD) (s' : Phys nD τ sig (Elt F)) : iprop(FIN m hr d ∗ SI s') ⊢ (⌜fq m hr d s'⌝ : sProp 𝕄) := by
  unfold FIN
  iintro ⟨⟨%V, %G, %h, H⟩, HSI⟩
  have key (b : Ref sig .tc) (hb : dr b ∈ S₂) : (iprop(held (d.tc : Thread nD τ) S₂ (Function.update V (dr main_v33) G) ∗ SI s') : sProp 𝕄)
      ⊢ ⌜s'.mem.mem ((d, dr b) : Loc nD τ sig) = Function.update V (dr main_v33) G (dr b)⌝ := held_read (F := F) d hb _ s'
  have all : (iprop(held (d.tc : Thread nD τ) S₂ (Function.update V (dr main_v33) G) ∗ SI s') : sProp 𝕄)
      ⊢ ⌜∀ b : Ref sig .tc, dr b ∈ S₂ → s'.mem.mem ((d, dr b) : Loc nD τ sig) = Function.update V (dr main_v33) G (dr b)⌝ :=
    (forall_intro fun b => forall_intro fun hb => key b hb).trans
      ((forall_mono fun b => pure_forall.2).trans pure_forall.2)
  ihave H := all $$ [H HSI]
  · isplitl [H] <;> iassumption
  icases H with %ha
  ipureintro
  refine ⟨fun b hb => ?_, V, h.1, ?_⟩
  · have hk : ∀ b ∈ [main_arg0, main_arg1, main_arg2, main_arg3, main_arg4, main_arg5, main_arg6, main_arg7, main_arg8, main_arg9],
        b.isScoped = false ∧ b ∉ [main_v4_0, main_v20, main_v6, main_v13] ∧ b ≠ main_v33 := by decide
    obtain ⟨h1, h2, h3⟩ := hk b hb
    rw [ha b (mem_S₂ b h1 h2), Function.update_of_ne (StableHlo.devRef_ne_of_ne h3)]
    exact h.1.args b hb
  · have e := ha main_v33 (mem_S₂ main_v33 (by decide) (by decide))
    rw [Function.update_self] at e
    rw [e]; exact h.2

/-- The program's run from a launch memory whose indices are in range. -/
theorem run_main : θ_run (Cert.KernelIdeal.defs (F := F)) (Cert.KernelIdeal.threads (F := F)) ⟨m, fun _ => 0, ρ⟩
    (fun r => (∀ d : Dev nD, (∀ b ∈ [main_arg0, main_arg1, main_arg2, main_arg3, main_arg4, main_arg5, main_arg6, main_arg7, main_arg8, main_arg9],
        r.2.mem (d, dr b) = m (d, dr b))
      ∧ ∃ V, Ready m hr d V ∧ Blk2 d (arrOf cfg4 V d) (r.2.mem (d, dr main_v33))) ∧ r.2.sem = fun _ => 0) :=
  SparseCore.Cfg.θ_run_sc_quiescent (K := K (F := F)) (D := D (F := F)) (𝒱 := 𝒱) (EH := EH) (P := P (known m hr)) (A := ∅) facts v₀
    (fun q hq => match q with | 0 => nomatch hq | 1 => nomatch hq)
    (fun q _ => match q with | 0 => tileObl0 (known m hr) facts | 1 => tileObl1 (known m hr) facts)
    (fun q _ => SparseCore.Cfg.VecSplit.of_plain (vecSplit (known m hr) q))
    m ρ main (fun d => bigSep Finset.univ fun p : Fin 3 => dealt (F := F) p d) (FIN m hr) (u₀ (F := F)) (sep_elim_left.trans (hu₀ (known m hr)))
    (hmain m hr ρ) (fq m hr) (hfin m hr) _ (fun _ h hz => ⟨h, hz⟩)

end Cert.Proof.Mov

end
-- ==== Proof.Frames.lean ====
/-
  The kernel's frames, read off its run.
-/
module

public import proofs.«01_k».proof.Proof.Run
public import proofs.«01_k».proof.Proof.Gen.Kernel
public import proofs.«01_k».proof.Proof.Gen.ReferenceIdeal.Run
public import Idealize.ShloMosaic.Lib.Tactic
public import proofs.«01_k».proof.Proof.Gen.Pre_in_range

@[expose] public section

noncomputable section

namespace Cert.Proof

open Idealize.ShloMosaic Idealize.SL.Sem

open Cert.KernelIdeal in
/-- The argument arrays unchanged, read off the list. -/
theorem args_of {F : FTy → Type} (m s : (ℓ : Loc nD τ sig) → Buf (Elt F) ℓ) (c : Dev nD)
    (h : ∀ b ∈ [main_arg0, main_arg1, main_arg2, main_arg3, main_arg4, main_arg5, main_arg6, main_arg7, main_arg8, main_arg9],
      s (c, Mov.dr b) = m (c, Mov.dr b)) :
    s ((c.tc : Thread nD τ).loc main_arg0) = m ((c.tc : Thread nD τ).loc main_arg0)
    ∧ s ((c.tc : Thread nD τ).loc main_arg1) = m ((c.tc : Thread nD τ).loc main_arg1)
    ∧ s ((c.tc : Thread nD τ).loc main_arg2) = m ((c.tc : Thread nD τ).loc main_arg2)
    ∧ s ((c.tc : Thread nD τ).loc main_arg3) = m ((c.tc : Thread nD τ).loc main_arg3)
    ∧ s ((c.tc : Thread nD τ).loc main_arg4) = m ((c.tc : Thread nD τ).loc main_arg4)
    ∧ s ((c.tc : Thread nD τ).loc main_arg5) = m ((c.tc : Thread nD τ).loc main_arg5)
    ∧ s ((c.tc : Thread nD τ).loc main_arg6) = m ((c.tc : Thread nD τ).loc main_arg6)
    ∧ s ((c.tc : Thread nD τ).loc main_arg7) = m ((c.tc : Thread nD τ).loc main_arg7)
    ∧ s ((c.tc : Thread nD τ).loc main_arg8) = m ((c.tc : Thread nD τ).loc main_arg8)
    ∧ s ((c.tc : Thread nD τ).loc main_arg9) = m ((c.tc : Thread nD τ).loc main_arg9) := by
  have h' (b : Ref sig .tc) (hb : b ∈ [main_arg0, main_arg1, main_arg2, main_arg3, main_arg4, main_arg5, main_arg6, main_arg7, main_arg8, main_arg9]) :
      s ((c.tc : Thread nD τ).loc b) = m ((c.tc : Thread nD τ).loc b) := h b hb
  exact ⟨h' _ (by decide), h' _ (by decide), h' _ (by decide), h' _ (by decide), h' _ (by decide), h' _ (by decide), h' _ (by decide),
    h' _ (by decide), h' _ (by decide), h' _ (by decide)⟩

/-- The precondition bounds the indices, over any float values. -/
theorem inRange {F : FTy → Type} [FloatOps F] (m : (ℓ : Loc Cert.KernelIdeal.nD Cert.KernelIdeal.τ Cert.KernelIdeal.sig) → Buf (Elt F) ℓ)
    (h : ∀ c : Dev Cert.KernelIdeal.nD, Cert.Pre_in_range.fn (F := F) (m (c, Mov.dr Cert.KernelIdeal.main_arg0)) (m (c, Mov.dr Cert.KernelIdeal.main_arg1))
      (m (c, Mov.dr Cert.KernelIdeal.main_arg2)) (m (c, Mov.dr Cert.KernelIdeal.main_arg3)) (m (c, Mov.dr Cert.KernelIdeal.main_arg4))
      (m (c, Mov.dr Cert.KernelIdeal.main_arg5)) (m (c, Mov.dr Cert.KernelIdeal.main_arg6)) (m (c, Mov.dr Cert.KernelIdeal.main_arg7))
      (m (c, Mov.dr Cert.KernelIdeal.main_arg8)) (m (c, Mov.dr Cert.KernelIdeal.main_arg9)) = fun _ => 1#1) : Mov.InRange m :=
  fun d i => Mov.ranges _ _ _ _ _ _ _ _ _ _ (h d) i

/-- `Cert.quiescent_KernelIdeal`. -/
theorem frame_kernelIdeal : Cert.quiescent_KernelIdeal := fun m ρ hpre =>
  (θ_run Cert.KernelIdeal.defs _ _).mono (fun _ h => ⟨fun c => args_of m _ c (h.1 c).1, h.2⟩) (Mov.run_main m (inRange m hpre) ρ)

/-- The frame of the idealization's text read over the machine's floats. -/
def FrameBits : Prop :=
  ∀ (m : (ℓ : Loc Cert.KernelIdeal.nD Cert.KernelIdeal.τ Cert.KernelIdeal.sig) → Buf (Elt Bits) ℓ) (g : Dev Cert.KernelIdeal.nD → PrngReg),
    (∀ c : Dev Cert.KernelIdeal.nD, Cert.Pre_in_range.fn (F := Bits) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) = fun _ => 1#1) →
    θ_run (Cert.KernelIdeal.defs (F := Bits)) (Cert.KernelIdeal.threads (F := Bits)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

theorem frameBits : FrameBits := fun m ρ hpre =>
  (θ_run Cert.KernelIdeal.defs _ _).mono (fun _ h => ⟨fun c => args_of (F := Bits) m _ c (h.1 c).1, h.2⟩)
    (Mov.run_main (F := Bits) m (inRange (F := Bits) m hpre) ρ)

/-- No operation was rewritten, so the kernel's frame is that frame. -/
theorem frame_eq : Cert.quiescent_Kernel = FrameBits := by sl_kernel_rfl

/-- `Cert.quiescent_Kernel`. -/
theorem frame_kernel : Cert.quiescent_Kernel := frame_eq.mpr frameBits

/-- `Cert.quiescent_ReferenceIdeal`: host operations only, and no semaphore declared. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- `Cert.quiescent_ReferenceIdeal_pre_in_range`. -/
theorem frame_reference_pre : Cert.quiescent_ReferenceIdeal_pre_in_range := fun m ρ _ => frame_reference m ρ trivial

end Cert.Proof

end
-- ==== Proof.Pack.lean ====
/-
  The packed tables read at an entry, over the extended reals.
-/
module

public import proofs.«01_k».proof.Proof.Gen.KernelIdeal.Skeleton
public import Idealize.ShloMosaic.Lib.Pointwise

@[expose] public section

set_option maxRecDepth 16384

noncomputable section

namespace Cert.Proof.Mov

open Idealize.ShloMosaic Idealize.ShloMosaic.TcCoe Idealize.SL.Sem

open Cert.KernelIdeal Cert.KernelIdeal.Gen

/-- A comparison of small words, counted as a number: one where they agree and nought elsewhere. -/
theorem counted {a b : BitVec 32} : (FloatOps.sitofp (F := Ideal) FTy.f32 (BitVec.setWidth 32 (IntOp.cmpi .eq a b)) : EReal) = if a = b then 1 else 0 := by
  show (((BitVec.setWidth 32 (IntOp.cmpi .eq a b)).toInt : ℝ) : EReal) = _
  by_cases h : a = b
  · subst h
    have : IntOp.cmpi .eq a a = 1#1 := by simp [IntOp.cmpi]
    rw [this, if_pos rfl]; norm_num
  · have : IntOp.cmpi .eq a b = 0#1 := by simp only [IntOp.cmpi, beq_false_of_ne h]; rfl
    rw [this, if_neg h]; norm_num

/-- Of a sum against a row of the identity one term is left. -/
theorem sum_unit (f : Fin 128 → EReal) (k : Fin 128) :
    (∑ x : Fin 128, f x * (FloatOps.sitofp (F := Ideal) FTy.f32 (BitVec.setWidth 32 (IntOp.cmpi .eq (BitVec.ofNat 32 x.val) (BitVec.ofNat 32 k.val))) : EReal)) = f k := by
  have h (x : Fin 128) : (BitVec.ofNat 32 x.val = BitVec.ofNat 32 k.val) ↔ x = k := by
    refine ⟨fun e => Fin.ext ?_, fun e => e ▸ rfl⟩
    have := congrArg BitVec.toNat e
    simp only [BitVec.toNat_ofNat] at this
    omega
  simp only [counted, h, mul_ite, mul_one, mul_zero, Finset.sum_ite_eq', Finset.mem_univ, if_true]

/-- A window's rows in a stack of four. -/
def stacked (x0 x1 x2 x3 : FVec Ideal S1x8x65536 .f32) (e : Fin 32) (l : Fin 65536) : EReal :=
  if h : e.val < 8 then x0 (ix3 0 ⟨e.val, h⟩ l) else if h : e.val - 8 < 8 then x1 (ix3 0 ⟨e.val - 8, h⟩ l)
    else if h : e.val - 8 - 8 < 8 then x2 (ix3 0 ⟨e.val - 8 - 8, h⟩ l) else x3 (ix3 0 ⟨e.val - 8 - 8 - 8, by omega⟩ l)

/-- What the repack stores at row `r`, column `k`: column `k % 32` of the row `(k / 32) * 16384 + r` of the block. -/
theorem pay_at (x0 x1 x2 x3 : FVec Ideal S1x8x65536 .f32) (r : Fin 16384) (k : Fin 128) :
    k0_pay1 (F := Ideal) x0 x1 x2 x3 (ix2 r k) = stacked x0 x1 x2 x3 ⟨k.val % 32, by omega⟩ ⟨k.val / 32 * 16384 + r.val, by omega⟩ := by
  pointwise [k0_pay1]
  refine (sum_unit _ k).trans ?_
  unfold stacked
  by_cases h0 : k.val < 32
  · have e1 : k.val % 32 = k.val := by omega
    have e2 : k.val / 32 * 16384 + r.val = r.val := by omega
    rw [dif_pos h0]
    simp only [e1, e2]
  rw [dif_neg h0]
  by_cases h1 : k.val - 32 < 32
  · have e1 : k.val % 32 = k.val - 32 := by omega
    have e2 : k.val / 32 * 16384 + r.val = 16384 + r.val := by omega
    rw [dif_pos h1]
    simp only [e1, e2]
  rw [dif_neg h1]
  by_cases h2 : k.val - 32 - 32 < 32
  · have e1 : k.val % 32 = k.val - 32 - 32 := by omega
    have e2 : k.val / 32 * 16384 + r.val = 32768 + r.val := by omega
    rw [dif_pos h2]
    simp only [e1, e2]
  have e1 : k.val % 32 = k.val - 32 - 32 - 32 := by omega
  have e2 : k.val / 32 * 16384 + r.val = 49152 + r.val := by omega
  rw [dif_neg h2]
  simp only [e1, e2]

end Cert.Proof.Mov
-- ==== Proof.Packed.lean ====
/-
  The packed tables hold the tables' rows: each entry of a row that exists is an entry of its table.
-/
module

public import proofs.«01_k».proof.Proof.Blk
public import proofs.«01_k».proof.Proof.Ops
public import proofs.«01_k».proof.Proof.Pack

@[expose] public section

set_option maxRecDepth 16384

noncomputable section

namespace Cert.Proof.Mov

open Idealize.ShloMosaic Idealize.ShloMosaic.TcCoe Idealize.SL.Sem Idealize.ShloMosaic.Pipeline

open Cert.KernelIdeal Cert.KernelIdeal.Gen

/-- The four windows stacked read the four groups of rows of a table. -/
theorem stacked_of {N : ℕ} {x0 x1 x2 x3 : FVec Ideal S1x8x65536 .f32} {A : (⟨3, ![4, 8, N]⟩ : Shape).Idx → EReal} {l : Fin 65536} {p : Fin N}
    (h0 : ∀ b, x0 (ix3 0 b l) = A (ix3 0 b p)) (h1 : ∀ b, x1 (ix3 0 b l) = A (ix3 1 b p)) (h2 : ∀ b, x2 (ix3 0 b l) = A (ix3 2 b p))
    (h3 : ∀ b, x3 (ix3 0 b l) = A (ix3 3 b p)) (e : Fin 32) :
    stacked x0 x1 x2 x3 e l = A (ix3 ⟨e.val / 8, by omega⟩ ⟨e.val % 8, by omega⟩ p) := by
  unfold stacked
  split
  · rw [h0]; congr 1; idx_ext <;> simp <;> omega
  split
  · rw [h1]; congr 1; idx_ext <;> simp <;> omega
  split
  · rw [h2]; congr 1; idx_ext <;> simp <;> omega
  · rw [h3]; congr 1; idx_ext <;> simp <;> omega

/-- The movie table's layout for the repack, entry by entry. -/
theorem splitM_at (x : FVec Ideal S100000x32 .f32) (e : Fin 32) (p : Fin 100000) :
    splitM x (ix3 ⟨e.val / 8, by omega⟩ ⟨e.val % 8, by omega⟩ p) = x (ix2 p e) := by
  pointwise [splitM]

/-- The user table's layout for the repack, entry by entry. -/
theorem splitU_at (x : FVec Ideal S1000000x32 .f32) (e : Fin 32) (p : Fin 1000000) :
    splitU x (ix3 ⟨e.val / 8, by omega⟩ ⟨e.val % 8, by omega⟩ p) = x (ix2 p e) := by
  pointwise [splitU]

/-- An entry of a block lies in the part that a clipped fetch moves when its row exists. -/
theorem inPart {N n : ℕ} (b : Fin 8) (l : Fin 65536) (h : n * 65536 + l.val < N) (a : Fin 3) :
    (ix3 (n0 := 1) 0 b l a).val < (![1, 8, min 65536 (N - n * 65536)] : Fin 3 → ℕ) a := by
  match a with
  | 0 => exact Nat.one_pos
  | 1 => exact b.isLt
  | 2 => show l.val < min 65536 (N - n * 65536); omega

/-! ## The movie table -/

theorem ind0 : ∀ t : Fin cfg0.N, win0_0.index t = ![0, 0, t.val] ∧ win0_1.index t = ![1, 0, t.val] ∧ win0_2.index t = ![2, 0, t.val] ∧ win0_3.index t = ![3, 0, t.val] := by decide +kernel

theorem part0 : ∀ t : Fin cfg0.N, win0_0.xsize (grid0.coords t) = ![1, 8, min 65536 (100000 - t.val * 65536)] ∧ win0_1.xsize (grid0.coords t) = ![1, 8, min 65536 (100000 - t.val * 65536)]
    ∧ win0_2.xsize (grid0.coords t) = ![1, 8, min 65536 (100000 - t.val * 65536)] ∧ win0_3.xsize (grid0.coords t) = ![1, 8, min 65536 (100000 - t.val * 65536)] := by decide +kernel

/-- The four windows of the movie repack hold the table's entries where they exist. -/
theorem got0 (t : Fin cfg0.N) (c : Dev nD) (A : S4x8x100000.Idx → Elt Ideal .f32) (b : Fin 8) (l : Fin 65536) (h : t.val * 65536 + l.val < 100000) :
    (∀ d, got (F := Ideal) cfg0 0 t c A d (ix3 0 b l) = A (ix3 0 b ⟨t.val * 65536 + l.val, h⟩))
    ∧ (∀ d, got (F := Ideal) cfg0 1 t c A d (ix3 0 b l) = A (ix3 1 b ⟨t.val * 65536 + l.val, h⟩))
    ∧ (∀ d, got (F := Ideal) cfg0 2 t c A d (ix3 0 b l) = A (ix3 2 b ⟨t.val * 65536 + l.val, h⟩))
    ∧ (∀ d, got (F := Ideal) cfg0 3 t c A d (ix3 0 b l) = A (ix3 3 b ⟨t.val * 65536 + l.val, h⟩)) := by
  obtain ⟨p0, p1, p2, p3⟩ := part0 t
  obtain ⟨i0, i1, i2, i3⟩ := ind0 t
  unfold got Window.fill
  refine ⟨fun d => (dif_pos (((cfg0.win 0).moved_iff _ _).2 fun a => (inPart b l h a).trans_eq (congrFun p0 a).symm)).trans ?_,
    fun d => (dif_pos (((cfg0.win 1).moved_iff _ _).2 fun a => (inPart b l h a).trans_eq (congrFun p1 a).symm)).trans ?_,
    fun d => (dif_pos (((cfg0.win 2).moved_iff _ _).2 fun a => (inPart b l h a).trans_eq (congrFun p2 a).symm)).trans ?_,
    fun d => (dif_pos (((cfg0.win 3).moved_iff _ _).2 fun a => (inPart b l h a).trans_eq (congrFun p3 a).symm)).trans ?_⟩
  all_goals blk_ext [i0, i1, i2, i3]

/-- Entry `(p / 65536 * 16384 + p % 16384, p % 65536 / 16384 * 32 + e)` of the packed movie table is entry `(p, e)` of the table. -/
theorem packedM {c : Dev nD} {x : FVec Ideal S100000x32 .f32} {G : S32768x128.Idx → Elt Ideal .f32} (hG : Blk0 c (splitM x) G) (p : Fin 100000) (e : Fin 32) :
    G (ix2 ⟨p.val / 65536 * 16384 + p.val % 16384, by omega⟩ ⟨p.val % 65536 / 16384 * 32 + e.val, by omega⟩) = x (ix2 p e) := by
  obtain ⟨X, hX, hG⟩ := hG
  refine (hG ⟨p.val / 65536, by omega⟩ ⟨p.val % 16384, by omega⟩ _).trans ?_
  obtain ⟨d0, d1, d2, d3, hX⟩ := hX ⟨p.val / 65536, by omega⟩
  rw [hX]
  refine (pay_at _ _ _ _ _ _).trans ?_
  have hl : p.val / 65536 * 65536 + ((p.val % 65536 / 16384 * 32 + e.val) / 32 * 16384 + p.val % 16384) = p.val := by omega
  have g (b : Fin 8) := got0 ⟨p.val / 65536, by show _ < 2; omega⟩ c (splitM x) b ⟨(p.val % 65536 / 16384 * 32 + e.val) / 32 * 16384 + p.val % 16384, by omega⟩ (hl.trans_lt p.isLt)
  refine (stacked_of (fun b => (g b).1 d0) (fun b => (g b).2.1 d1) (fun b => (g b).2.2.1 d2) (fun b => (g b).2.2.2 d3) _).trans ?_
  refine (splitM_at _ _ _).trans (congrArg x ?_)
  idx_ext <;> simp <;> omega

/-! ## The user table -/

theorem ind1 : ∀ t : Fin cfg1.N, win1_0.index t = ![0, 0, t.val] ∧ win1_1.index t = ![1, 0, t.val] ∧ win1_2.index t = ![2, 0, t.val] ∧ win1_3.index t = ![3, 0, t.val] := by decide +kernel

theorem part1 : ∀ t : Fin cfg1.N, win1_0.xsize (grid1.coords t) = ![1, 8, min 65536 (1000000 - t.val * 65536)] ∧ win1_1.xsize (grid1.coords t) = ![1, 8, min 65536 (1000000 - t.val * 65536)]
    ∧ win1_2.xsize (grid1.coords t) = ![1, 8, min 65536 (1000000 - t.val * 65536)] ∧ win1_3.xsize (grid1.coords t) = ![1, 8, min 65536 (1000000 - t.val * 65536)] := by decide +kernel

/-- The four windows of the user repack hold the table's entries where they exist. -/
theorem got1 (t : Fin cfg1.N) (c : Dev nD) (A : S4x8x1000000.Idx → Elt Ideal .f32) (b : Fin 8) (l : Fin 65536) (h : t.val * 65536 + l.val < 1000000) :
    (∀ d, got (F := Ideal) cfg1 0 t c A d (ix3 0 b l) = A (ix3 0 b ⟨t.val * 65536 + l.val, h⟩))
    ∧ (∀ d, got (F := Ideal) cfg1 1 t c A d (ix3 0 b l) = A (ix3 1 b ⟨t.val * 65536 + l.val, h⟩))
    ∧ (∀ d, got (F := Ideal) cfg1 2 t c A d (ix3 0 b l) = A (ix3 2 b ⟨t.val * 65536 + l.val, h⟩))
    ∧ (∀ d, got (F := Ideal) cfg1 3 t c A d (ix3 0 b l) = A (ix3 3 b ⟨t.val * 65536 + l.val, h⟩)) := by
  obtain ⟨p0, p1, p2, p3⟩ := part1 t
  obtain ⟨i0, i1, i2, i3⟩ := ind1 t
  unfold got Window.fill
  refine ⟨fun d => (dif_pos (((cfg1.win 0).moved_iff _ _).2 fun a => (inPart b l h a).trans_eq (congrFun p0 a).symm)).trans ?_,
    fun d => (dif_pos (((cfg1.win 1).moved_iff _ _).2 fun a => (inPart b l h a).trans_eq (congrFun p1 a).symm)).trans ?_,
    fun d => (dif_pos (((cfg1.win 2).moved_iff _ _).2 fun a => (inPart b l h a).trans_eq (congrFun p2 a).symm)).trans ?_,
    fun d => (dif_pos (((cfg1.win 3).moved_iff _ _).2 fun a => (inPart b l h a).trans_eq (congrFun p3 a).symm)).trans ?_⟩
  all_goals blk_ext [i0, i1, i2, i3]

/-- Entry `(p / 65536 * 16384 + p % 16384, p % 65536 / 16384 * 32 + e)` of the packed user table is entry `(p, e)` of the table. -/
theorem packedU {c : Dev nD} {x : FVec Ideal S1000000x32 .f32} {G : S262144x128.Idx → Elt Ideal .f32} (hG : Blk1 c (splitU x) G) (p : Fin 1000000) (e : Fin 32) :
    G (ix2 ⟨p.val / 65536 * 16384 + p.val % 16384, by omega⟩ ⟨p.val % 65536 / 16384 * 32 + e.val, by omega⟩) = x (ix2 p e) := by
  obtain ⟨X, hX, hG⟩ := hG
  refine (hG ⟨p.val / 65536, by omega⟩ ⟨p.val % 16384, by omega⟩ _).trans ?_
  obtain ⟨d0, d1, d2, d3, hX⟩ := hX ⟨p.val / 65536, by omega⟩
  rw [hX]
  refine (pay_at _ _ _ _ _ _).trans ?_
  have hl : p.val / 65536 * 65536 + ((p.val % 65536 / 16384 * 32 + e.val) / 32 * 16384 + p.val % 16384) = p.val := by omega
  have g (b : Fin 8) := got1 ⟨p.val / 65536, by show _ < 16; omega⟩ c (splitU x) b ⟨(p.val % 65536 / 16384 * 32 + e.val) / 32 * 16384 + p.val % 16384, by omega⟩ (hl.trans_lt p.isLt)
  refine (stacked_of (fun b => (g b).1 d0) (fun b => (g b).2.1 d1) (fun b => (g b).2.2.1 d2) (fun b => (g b).2.2.2 d3) _).trans ?_
  refine (splitU_at _ _ _).trans (congrArg x ?_)
  idx_ext <;> simp <;> omega

end Cert.Proof.Mov
-- ==== Proof.RefValue.lean ====
/-
  The reference's result read at a row, over the extended reals.
-/
module

public import proofs.«01_k».proof.Proof.Gen.ReferenceIdeal.Run
public import Idealize.ShloMosaic.Lib.Pointwise
public import Idealize.ShloMosaic.Lib.Routing.Ops

@[expose] public section

set_option maxRecDepth 16384

noncomputable section

namespace Cert.Proof

open Idealize.ShloMosaic

/-- The score of a pair of rows: two rectified layers and a weighted sum. -/
def score (u v : Fin 32 → EReal) (W1 : (⟨2, ![128, 64]⟩ : Shape).Idx → EReal) (b1 : (⟨1, ![128]⟩ : Shape).Idx → EReal) (W2 : (⟨2, ![64, 128]⟩ : Shape).Idx → EReal)
    (b2 : (⟨1, ![64]⟩ : Shape).Idx → EReal) (W3 : (⟨2, ![1, 64]⟩ : Shape).Idx → EReal) (b3 : (⟨1, ![1]⟩ : Shape).Idx → EReal) : EReal :=
  (∑ x : Fin 64, max ((∑ y : Fin 128, max ((∑ e : Fin 32, u e * W1 (ix2 y ⟨e.val, by omega⟩)) + (∑ e : Fin 32, v e * W1 (ix2 y ⟨32 + e.val, by omega⟩)) + b1 (ix1 y)) 0
    * W2 (ix2 x y)) + b2 (ix1 x)) 0 * W3 (ix2 0 x)) + b3 (ix1 0)

/-- An index that is not negative is not wrapped. -/
theorem wrapped (w n : BitVec 32) (h : w.toNat < 2 ^ 31) :
    Scalar.select (IntOp.cmpi .slt w 0#32) (IntOp.addi w n) w = w := by
  have : IntOp.cmpi .slt w 0#32 ≠ 1#1 := by
    simp only [IntOp.cmpi, ne_eq]
    have h0 : w.slt 0#32 = false := by
      rw [BitVec.slt_eq_decide, decide_eq_false_iff_not, BitVec.toInt_eq_toNat_of_lt (by omega)]; simp
    rw [h0]; decide
  rw [ValueIdx.eq_zero_of_ne_one this, ValueIdx.select_zero]

/-- An index below the number of rows passes both tests. -/
theorem passes (w n : BitVec 32) (hn : n.toNat < 2 ^ 31) (h : w.toNat ≤ n.toNat) :
    IntOp.andi (IntOp.cmpi .sge w 0#32) (IntOp.cmpi .sle w n) = 1#1 := by
  have h0 : (0#32).sle w = true := by
    rw [BitVec.sle_eq_decide, decide_eq_true_eq, BitVec.toInt_eq_toNat_of_lt (x := w) (by omega)]; simp
  have h1 : w.sle n = true := by
    rw [BitVec.sle_eq_decide, decide_eq_true_eq, BitVec.toInt_eq_toNat_of_lt (x := w) (by omega), BitVec.toInt_eq_toNat_of_lt (by omega)]; omega
  simp only [IntOp.cmpi, h0, h1]
  decide

end Cert.Proof

namespace Cert.Proof.Ref

open Idealize.ShloMosaic Idealize.ShloMosaic.TcCoe Idealize.SL.Sem

open Cert.ReferenceIdeal Cert.ReferenceIdeal.Gen

/-- The user indices with the negative ones counted from the end. -/
def wrapU (m : (ℓ : Loc nD τ sig) → Buf (Elt Ideal) ℓ) (c : Dev nD) : IVec S16384 32 :=
  select (cmpi .slt (m (c.tc.loc main_arg0)) (broadcastInDim S16384 ![] bcast_S_S16384 (constantI S_ 32 0#32)))
    (addi (m (c.tc.loc main_arg0)) (broadcastInDim S16384 ![] bcast_S_S16384 (constantI S_ 32 1000000#32))) (m (c.tc.loc main_arg0))

/-- The movie indices with the negative ones counted from the end. -/
def wrapM (m : (ℓ : Loc nD τ sig) → Buf (Elt Ideal) ℓ) (c : Dev nD) : IVec S16384 32 :=
  select (cmpi .slt (m (c.tc.loc main_arg1)) (broadcastInDim S16384 ![] bcast_S_S16384 (constantI S_ 32 0#32)))
    (addi (m (c.tc.loc main_arg1)) (broadcastInDim S16384 ![] bcast_S_S16384 (constantI S_ 32 100000#32))) (m (c.tc.loc main_arg1))

/-- The reference's result at row `r` is the score of the two rows its indices name. -/
theorem res_at (m : (ℓ : Loc nD τ sig) → Buf (Elt Ideal) ℓ) (c : Dev nD) (r : Fin 16384)
    (hu : (m (c.tc.loc main_arg0) (ix1 r)).toNat < 1000000) (hm : (m (c.tc.loc main_arg1) (ix1 r)).toNat < 100000) :
    (show EReal from Value.res_main_v20 (F := Ideal) m c (ix1 r))
      = score (fun e => m (c.tc.loc main_arg2) (ix2 ⟨_, hu⟩ e)) (fun e => m (c.tc.loc main_arg3) (ix2 ⟨_, hm⟩ e))
          (m (c.tc.loc main_arg4)) (m (c.tc.loc main_arg5)) (m (c.tc.loc main_arg6)) (m (c.tc.loc main_arg7)) (m (c.tc.loc main_arg8)) (m (c.tc.loc main_arg9)) := by
  have gu (e : Fin 32) := Routing.gather_row gather_S1000000x32_S16384x1_S16384x32_1_0_n_n_0_1_132 rfl rfl rfl rfl rfl (m (c.tc.loc main_arg2))
    (broadcastInDim (s := S16384) S16384x1 ![0] bcast_S16384_S16384x1_0 (wrapU m c)) r e ⟨_, hu⟩ (by
      show broadcastInDim (s := S16384) S16384x1 ![0] bcast_S16384_S16384x1_0 (wrapU m c) (ix2 r 0) = _
      pointwise [wrapU, wrapM]
      rw [wrapped _ _ (by omega)]; simp) (by decide)
  have gm (e : Fin 32) := Routing.gather_row gather_S100000x32_S16384x1_S16384x32_1_0_n_n_0_1_132 rfl rfl rfl rfl rfl (m (c.tc.loc main_arg3))
    (broadcastInDim (s := S16384) S16384x1 ![0] bcast_S16384_S16384x1_0 (wrapM m c)) r e ⟨_, hm⟩ (by
      show broadcastInDim (s := S16384) S16384x1 ![0] bcast_S16384_S16384x1_0 (wrapM m c) (ix2 r 0) = _
      pointwise [wrapU, wrapM]
      rw [wrapped _ _ (by omega)]; simp) (by decide)
  show Value.res_main_v20 (F := Ideal) m c (ix1 r) = _
  have e1 : Finset.fold IntOp.andi (1#1) (fun _ : Fin 1 => (1#1 : BitVec 1)) Finset.univ = 1#1 := by decide
  pointwise [Value.res_main_v20, score, wrapped _ _ (show (m (c.tc.loc main_arg0) (ix1 r)).toNat < 2 ^ 31 by omega), wrapped _ _ (show (m (c.tc.loc main_arg1) (ix1 r)).toNat < 2 ^ 31 by omega), passes _ 999999#32 (by decide) (show (m (c.tc.loc main_arg0) (ix1 r)).toNat ≤ _ from Nat.le_pred_of_lt hu),
    passes _ 99999#32 (by decide) (show (m (c.tc.loc main_arg1) (ix1 r)).toNat ≤ _ from Nat.le_pred_of_lt hm), e1, ValueIdx.select_one]
  refine Ideal.add_congr (Finset.sum_congr rfl fun x _ => Ideal.mul_congr (congrArg (max · 0) (Ideal.add_congr (Finset.sum_congr rfl fun y _ =>
    Ideal.mul_congr (congrArg (max · 0) (Ideal.add_congr (Ideal.add_congr (Finset.sum_congr rfl fun e _ => Ideal.mul_congr (gu e) rfl)
      (Finset.sum_congr rfl fun e _ => Ideal.mul_congr (gm e) rfl)) rfl)) rfl) rfl)) rfl) rfl

end Cert.Proof.Ref
-- ==== Proof.Mlp.lean ====
/-
  The two-layer region's output block read at an entry, over the extended reals.
-/
module

public import proofs.«01_k».proof.Proof.Region
public import proofs.«01_k».proof.Proof.Pack
public import proofs.«01_k».proof.Proof.RefValue
public import Idealize.ShloMosaic.Lib.Pointwise

@[expose] public section

set_option maxRecDepth 16384

noncomputable section

namespace Cert.Proof.Mov

open Idealize.ShloMosaic Idealize.ShloMosaic.TcCoe Idealize.SL.Sem

open Cert.KernelIdeal Cert.KernelIdeal.Gen

/-- The test that the kernel makes of a quarter's number. -/
theorem tested (a b : BitVec 32) : ((FloatOps.sitofp (F := Ideal) FTy.f32 (BitVec.setWidth 32 (IntOp.cmpi .eq a b)) : EReal) ≠ 0) ↔ a = b := by
  rw [counted]; split <;> simp [*]

/-- The quarter of a packed row that a number below four selects. -/
theorem quarter {f : Fin 128 → EReal} {q : BitVec 32} (hq : q.toNat < 4) (e : Fin 32) :
    (if q = 3#32 then f ⟨96 + e.val, by omega⟩ else if q = 2#32 then f ⟨64 + e.val, by omega⟩ else if q = 1#32 then f ⟨32 + e.val, by omega⟩ else f ⟨e.val, by omega⟩)
      = f ⟨q.toNat * 32 + e.val, by omega⟩ := by
  have h (n : ℕ) (hn : n < 4) : (q = BitVec.ofNat 32 n) ↔ q.toNat = n := by
    rw [← BitVec.toNat_inj, BitVec.toNat_ofNat, Nat.mod_eq_of_lt (by omega)]
  have h3 := h 3 (by omega); have h2 := h 2 (by omega); have h1 := h 1 (by omega)
  simp only [h3, h2, h1]
  split
  · congr 1; apply Fin.ext; simp only; omega
  split
  · congr 1; apply Fin.ext; simp only; omega
  split
  · congr 1; apply Fin.ext; simp only; omega
  · congr 1; apply Fin.ext; simp only; omega

/-- What the region stores at row `r` is the score of the two selected quarters. -/
theorem mlp_at (x0 x1 : FVec Ideal S1024x128 .f32) (x2 x3 : IVec S1024 32) (x4 x5 : FVec Ideal S128x32 .f32) (x6 : FVec Ideal S128 .f32) (x7 : FVec Ideal S64x128 .f32)
    (x8 : FVec Ideal S64 .f32) (x9 : FVec Ideal S1x64 .f32) (x10 : FVec Ideal S1 .f32) (W : S128x64.Idx → EReal)
    (h4 : ∀ y (e : Fin 32), x4 (ix2 y e) = W (ix2 y ⟨e.val, by omega⟩)) (h5 : ∀ y (e : Fin 32), x5 (ix2 y e) = W (ix2 y ⟨32 + e.val, by omega⟩))
    (r : Fin 1024) (h2 : (x2 (ix1 r)).toNat < 4) (h3 : (x3 (ix1 r)).toNat < 4) :
    mlpVal (F := Ideal) x0 x1 x2 x3 x4 x5 x6 x7 x8 x9 x10 (ix1 r)
      = score (fun e => x0 (ix2 r ⟨(x2 (ix1 r)).toNat * 32 + e.val, by omega⟩)) (fun e => x1 (ix2 r ⟨(x3 (ix1 r)).toNat * 32 + e.val, by omega⟩)) W x6 x7 x8 x9 x10 := by
  pointwise [mlpVal, k4_pay1, k4_pay11, k4_pay2, k4_pay3, k4_pay4, k4_pay5, k4_pay6, k4_pay7, k4_pay8, k4_pay9, k4_pay10, score]
  simp only [tested]
  refine Ideal.add_congr (Finset.sum_congr rfl fun x _ => Ideal.mul_congr (congrArg (max · 0) (Ideal.add_congr (Finset.sum_congr rfl fun y _ =>
    Ideal.mul_congr (congrArg (max · 0) (Ideal.add_congr (Ideal.add_congr (Finset.sum_congr rfl fun e _ => Ideal.mul_congr ?_ (h4 y e))
      (Finset.sum_congr rfl fun e _ => Ideal.mul_congr ?_ (h5 y e))) rfl)) rfl) rfl)) rfl) rfl
  · exact quarter (f := fun k => x0 (ix2 r k)) h2 e
  · exact quarter (f := fun k => x1 (ix2 r k)) h3 e

/-- The same from what is known of the windows: the quarters' numbers, the quarters, and the weights. -/
theorem mlp_of {x0 x1 : FVec Ideal S1024x128 .f32} {x2 x3 : IVec S1024 32} {x4 x5 : FVec Ideal S128x32 .f32} {x6 : FVec Ideal S128 .f32} {x7 : FVec Ideal S64x128 .f32}
    {x8 : FVec Ideal S64 .f32} {x9 : FVec Ideal S1x64 .f32} {x10 : FVec Ideal S1 .f32} {W1 : S128x64.Idx → EReal} {b1 : S128.Idx → EReal} {W2 : S64x128.Idx → EReal}
    {b2 : S64.Idx → EReal} {W3 : S1x64.Idx → EReal} {b3 : S1.Idx → EReal} {r : Fin 1024} {u v : Fin 32 → EReal} {qu qm : ℕ} (hqu : qu < 4) (hqm : qm < 4)
    (h0 : ∀ e : Fin 32, x0 (ix2 r ⟨qu * 32 + e.val, by omega⟩) = u e) (h1 : ∀ e : Fin 32, x1 (ix2 r ⟨qm * 32 + e.val, by omega⟩) = v e)
    (h2 : (x2 (ix1 r)).toNat = qu) (h3 : (x3 (ix1 r)).toNat = qm)
    (h4 : ∀ y (e : Fin 32), x4 (ix2 y e) = W1 (ix2 y ⟨e.val, by omega⟩)) (h5 : ∀ y (e : Fin 32), x5 (ix2 y e) = W1 (ix2 y ⟨32 + e.val, by omega⟩))
    (h6 : x6 = b1) (h7 : x7 = W2) (h8 : x8 = b2) (h9 : x9 = W3) (h10 : x10 = b3) :
    mlpVal (F := Ideal) x0 x1 x2 x3 x4 x5 x6 x7 x8 x9 x10 (ix1 r) = score u v W1 b1 W2 b2 W3 b3 := by
  subst h2 h3 h6 h7 h8 h9 h10
  rw [mlp_at x0 x1 x2 x3 x4 x5 x6 x7 x8 x9 x10 W1 h4 h5 r hqu hqm, ← funext h0, ← funext h1]

end Cert.Proof.Mov
-- ==== Proof.Values.lean ====
/-
  What the kernel's result holds, row by row, over the extended reals.
-/
module

public import proofs.«01_k».proof.Proof.Run
public import proofs.«01_k».proof.Proof.Packed
public import proofs.«01_k».proof.Proof.Mlp

@[expose] public section

set_option maxRecDepth 16384

noncomputable section

namespace Cert.Proof.Mov

open Idealize.ShloMosaic Idealize.ShloMosaic.TcCoe Idealize.SL.Sem Idealize.ShloMosaic.Pipeline

open Cert.KernelIdeal Cert.KernelIdeal.Gen

/-! ## The windows of the two-layer region -/

theorem ind4 : ∀ t : Fin cfg4.N, win4_0.index t = ![t.val, 0] ∧ win4_1.index t = ![t.val, 0] ∧ win4_2.index t = ![t.val] ∧ win4_3.index t = ![t.val] := by decide +kernel

theorem ind4w : win4_4.index t4_0 = ![0, 0] ∧ win4_5.index t4_0 = ![0, 0] ∧ win4_6.index t4_0 = ![0] ∧ win4_7.index t4_0 = ![0, 0] ∧ win4_8.index t4_0 = ![0]
    ∧ win4_9.index t4_0 = ![0, 0] ∧ win4_10.index t4_0 = ![0] := by decide +kernel

section
variable (t : Fin cfg4.N) (c : Dev nD)

/-- The blocks of gathered rows, and of the quarters' numbers, at point `t`. -/
theorem got4 (Au Am : S16384x128.Idx → Elt Ideal .f32) (Qu Qm : S16384.Idx → Elt Ideal .i32) (r : Fin 1024) (ht : t.val * 1024 + r.val < 16384) :
    (∀ d k, got (F := Ideal) cfg4 0 t c Au d (ix2 r k) = Au (ix2 ⟨t.val * 1024 + r.val, ht⟩ k))
    ∧ (∀ d k, got (F := Ideal) cfg4 1 t c Am d (ix2 r k) = Am (ix2 ⟨t.val * 1024 + r.val, ht⟩ k))
    ∧ (∀ d, got (F := Ideal) cfg4 2 t c Qu d (ix1 r) = Qu (ix1 ⟨t.val * 1024 + r.val, ht⟩))
    ∧ (∀ d, got (F := Ideal) cfg4 3 t c Qm d (ix1 r) = Qm (ix1 ⟨t.val * 1024 + r.val, ht⟩)) := by
  obtain ⟨i0, i1, i2, i3⟩ := ind4 t
  refine ⟨fun d k => ?_, fun d k => ?_, fun d => ?_, fun d => ?_⟩
  · show ((cfg4.win 0).blk t).view.read (Elt Ideal) Au (ix2 r k) = _
    blk_ext [i0]
  · show ((cfg4.win 1).blk t).view.read (Elt Ideal) Am (ix2 r k) = _
    blk_ext [i1]
  · show ((cfg4.win 2).blk t).view.read (Elt Ideal) Qu (ix1 r) = _
    blk_ext [i2]
  · show ((cfg4.win 3).blk t).view.read (Elt Ideal) Qm (ix1 r) = _
    blk_ext [i3]
end

/-- The weights' windows hold the arrays whole. -/
theorem gotW (c : Dev nD) (A4 A5 : S128x32.Idx → Elt Ideal .f32) (A6 : S128.Idx → Elt Ideal .f32) (A7 : S64x128.Idx → Elt Ideal .f32) (A8 : S64.Idx → Elt Ideal .f32)
    (A9 : S1x64.Idx → Elt Ideal .f32) (A10 : S1.Idx → Elt Ideal .f32) :
    (∀ d, got (F := Ideal) cfg4 4 t4_0 c A4 d = A4) ∧ (∀ d, got (F := Ideal) cfg4 5 t4_0 c A5 d = A5) ∧ (∀ d, got (F := Ideal) cfg4 6 t4_0 c A6 d = A6)
    ∧ (∀ d, got (F := Ideal) cfg4 7 t4_0 c A7 d = A7) ∧ (∀ d, got (F := Ideal) cfg4 8 t4_0 c A8 d = A8) ∧ (∀ d, got (F := Ideal) cfg4 9 t4_0 c A9 d = A9)
    ∧ (∀ d, got (F := Ideal) cfg4 10 t4_0 c A10 d = A10) := by
  obtain ⟨i4, i5, i6, i7, i8, i9, i10⟩ := ind4w
  refine ⟨fun d => funext fun y => ?_, fun d => funext fun y => ?_, fun d => funext fun y => ?_, fun d => funext fun y => ?_, fun d => funext fun y => ?_,
    fun d => funext fun y => ?_, fun d => funext fun y => ?_⟩
  · show ((cfg4.win 4).blk t4_0).view.read (Elt Ideal) A4 y = _
    blk_ext [i4]
  · show ((cfg4.win 5).blk t4_0).view.read (Elt Ideal) A5 y = _
    blk_ext [i5]
  · show ((cfg4.win 6).blk t4_0).view.read (Elt Ideal) A6 y = _
    blk_ext [i6]
  · show ((cfg4.win 7).blk t4_0).view.read (Elt Ideal) A7 y = _
    blk_ext [i7]
  · show ((cfg4.win 8).blk t4_0).view.read (Elt Ideal) A8 y = _
    blk_ext [i8]
  · show ((cfg4.win 9).blk t4_0).view.read (Elt Ideal) A9 y = _
    blk_ext [i9]
  · show ((cfg4.win 10).blk t4_0).view.read (Elt Ideal) A10 y = _
    blk_ext [i10]

/-! ## The gathered rows -/

variable {m : (ℓ : Loc nD τ sig) → Buf (Elt Ideal) ℓ} {hr : InRange m} {d : Dev nD} {V : Valuation τ sig (Elt Ideal)}

/-- The selected quarter of a gathered movie row is the table's row. -/
theorem movieRow (h : Ready m hr d V) (i : Fin 16384) (e : Fin 32) :
    (V (dr main_v29) : S16384x128.Idx → EReal) (ix2 i ⟨((m (d, dr main_arg1) : IVec S16384 32) (ix1 i)).toNat % 65536 / 16384 * 32 + e.val, by omega⟩)
      = (m (d, dr main_arg3) : S100000x32.Idx → EReal) (ix2 ⟨((m (d, dr main_arg1) : IVec S16384 32) (ix1 i)).toNat, (hr d (ix1 i)).2⟩ e) := by
  have hi := (hr d (ix1 i)).2
  obtain ⟨T, hT, hx⟩ := h.movie (ix2 i ⟨((m (d, dr main_arg1) : IVec S16384 32) (ix1 i)).toNat % 65536 / 16384 * 32 + e.val, by omega⟩)
  refine hx.trans (Eq.trans (congrArg T ?_) (packedM hT ⟨_, hi⟩ e))
  funext a
  match a with
  | 0 =>
    apply Fin.ext
    show (rowsOf (m (d, dr main_arg1)) (ix1 i)).toNat % 32768 = _
    rw [rowsOf_toNat _ _ (by omega)]
    exact Nat.mod_eq_of_lt (by omega)
  | 1 => rfl

/-- The selected quarter of a gathered user row is the table's row. -/
theorem userRow (h : Ready m hr d V) (i : Fin 16384) (e : Fin 32) :
    (V (dr main_v30) : S16384x128.Idx → EReal) (ix2 i ⟨((m (d, dr main_arg0) : IVec S16384 32) (ix1 i)).toNat % 65536 / 16384 * 32 + e.val, by omega⟩)
      = (m (d, dr main_arg2) : S1000000x32.Idx → EReal) (ix2 ⟨((m (d, dr main_arg0) : IVec S16384 32) (ix1 i)).toNat, (hr d (ix1 i)).1⟩ e) := by
  have hi := (hr d (ix1 i)).1
  obtain ⟨T, hT, hx⟩ := h.user (ix2 i ⟨((m (d, dr main_arg0) : IVec S16384 32) (ix1 i)).toNat % 65536 / 16384 * 32 + e.val, by omega⟩)
  refine hx.trans (Eq.trans (congrArg T ?_) (packedU hT ⟨_, hi⟩ e))
  funext a
  match a with
  | 0 =>
    apply Fin.ext
    show (rowsOf (m (d, dr main_arg0)) (ix1 i)).toNat % 262144 = _
    rw [rowsOf_toNat _ _ (by omega)]
    exact Nat.mod_eq_of_lt (by omega)
  | 1 => rfl

/-- The two halves of the first weights, column by column. -/
theorem loAt (W : FVec Ideal S128x64 .f32) (y : Fin 128) (e : Fin 32) :
    extractStridedSlice S128x32 ![0, 0] W slices_S128x64_S128x32_0_0 (ix2 y e) = W (ix2 y ⟨e.val, by omega⟩) := by
  pointwise []

theorem hiAt (W : FVec Ideal S128x64 .f32) (y : Fin 128) (e : Fin 32) :
    extractStridedSlice S128x32 ![0, 32] W slices_S128x64_S128x32_0_32 (ix2 y e) = W (ix2 y ⟨32 + e.val, by omega⟩) := by
  pointwise []

/-- The kernel's result at row `i` is the score of the two rows that its indices name. -/
theorem value (h : Ready m hr d V) {G : S16384.Idx → Elt Ideal .f32} (hG : Blk2 d (arrOf cfg4 V d) G) (i : Fin 16384) :
    G (ix1 i) = score (fun e => (m (d, dr main_arg2) : S1000000x32.Idx → EReal) (ix2 ⟨_, (hr d (ix1 i)).1⟩ e))
      (fun e => (m (d, dr main_arg3) : S100000x32.Idx → EReal) (ix2 ⟨_, (hr d (ix1 i)).2⟩ e))
      (m (d, dr main_arg4)) (m (d, dr main_arg5)) (m (d, dr main_arg6)) (m (d, dr main_arg7)) (m (d, dr main_arg8)) (m (d, dr main_arg9)) := by
  obtain ⟨X, hX, hG⟩ := hG
  have hi : i = ⟨i.val / 1024 * 1024 + i.val % 1024, by omega⟩ := Fin.ext (by simp only; omega)
  have e1 : G (ix1 i) = X ⟨i.val / 1024, by omega⟩ (ix1 ⟨i.val % 1024, by omega⟩) :=
    (congrArg (fun k => G (ix1 k)) hi).trans (hG ⟨i.val / 1024, by omega⟩ ⟨i.val % 1024, by omega⟩)
  rw [e1]
  obtain ⟨d0, d1, d2, d3, d4, d5, d6, d7, d8, d9, d10, hX⟩ := hX ⟨i.val / 1024, by omega⟩
  rw [hX]
  obtain ⟨w4, w5, w6, w7, w8, w9, w10⟩ := gotW d (V (dr main_v31)) (V (dr main_v32)) (V (dr main_arg5)) (V (dr main_arg6)) (V (dr main_arg7)) (V (dr main_arg8)) (V (dr main_arg9))
  obtain ⟨g0, g1, g2, g3⟩ := got4 ⟨i.val / 1024, by show _ < 16; omega⟩ d (V (dr main_v30)) (V (dr main_v29)) (V (dr main_v24)) (V (dr main_v28)) ⟨i.val % 1024, by omega⟩
    (by show i.val / 1024 * 1024 + i.val % 1024 < 16384; omega)
  have ei : (ix1 ⟨i.val / 1024 * 1024 + i.val % 1024, by omega⟩ : S16384.Idx) = ix1 i := congrArg ix1 hi.symm
  refine mlp_of (qu := ((m (d, dr main_arg0) : IVec S16384 32) (ix1 i)).toNat % 65536 / 16384) (qm := ((m (d, dr main_arg1) : IVec S16384 32) (ix1 i)).toNat % 65536 / 16384)
    (by omega) (by omega) (fun e => (g0 d0 _).trans ?_) (fun e => (g1 d1 _).trans ?_) ((congrArg BitVec.toNat (g2 d2)).trans ?_) ((congrArg BitVec.toNat (g3 d3)).trans ?_)
    (fun y e => (congrFun (w4 d4) _).trans ?_) (fun y e => (congrFun (w5 d5) _).trans ?_)
    ((w6 d6).trans (h.args _ (by decide))) ((w7 d7).trans (h.args _ (by decide))) ((w8 d8).trans (h.args _ (by decide))) ((w9 d9).trans (h.args _ (by decide)))
    ((w10 d10).trans (h.args _ (by decide)))
  · exact (congrArg (fun k => (V (dr main_v30) : S16384x128.Idx → EReal) (ix2 k _)) hi.symm).trans (userRow h i e)
  · exact (congrArg (fun k => (V (dr main_v29) : S16384x128.Idx → EReal) (ix2 k _)) hi.symm).trans (movieRow h i e)
  · rw [h.subU]
    exact (quartersOf_toNat _ _).trans (congrArg (fun k => ((m (d, dr main_arg0) : IVec S16384 32) k).toNat % 65536 / 16384) ei)
  · rw [h.subM]
    exact (quartersOf_toNat _ _).trans (congrArg (fun k => ((m (d, dr main_arg1) : IVec S16384 32) k).toNat % 65536 / 16384) ei)
  · rw [h.lo]; exact loAt _ y e
  · rw [h.hi]; exact hiAt _ y e

end Cert.Proof.Mov
-- ==== Proof.Equation.lean ====
/-
  The kernel's results are the reference's.
-/
module

public import proofs.«01_k».proof.Proof.Frames
public import proofs.«01_k».proof.Proof.Values
public import proofs.«01_k».proof.Proof.RefValue

@[expose] public section

noncomputable section

namespace Cert.Proof

open Idealize.ShloMosaic Idealize.SL.Sem

/-- `Cert.algebraic_KernelIdeal_ReferenceIdeal`: both programs end with the scores of the rows that the indices name. -/
theorem algebraic : Cert.algebraic_KernelIdeal_ReferenceIdeal := by
  intro m g m' g' hpre hagree
  have hr := inRange m hpre
  refine ⟨fun c i => score (fun e => (m (c, Mov.dr Cert.KernelIdeal.main_arg2) : Cert.KernelIdeal.S1000000x32.Idx → EReal) (ix2 ⟨_, (hr c i).1⟩ e))
      (fun e => (m (c, Mov.dr Cert.KernelIdeal.main_arg3) : Cert.KernelIdeal.S100000x32.Idx → EReal) (ix2 ⟨_, (hr c i).2⟩ e))
      (m (c, Mov.dr Cert.KernelIdeal.main_arg4)) (m (c, Mov.dr Cert.KernelIdeal.main_arg5)) (m (c, Mov.dr Cert.KernelIdeal.main_arg6)) (m (c, Mov.dr Cert.KernelIdeal.main_arg7))
      (m (c, Mov.dr Cert.KernelIdeal.main_arg8)) (m (c, Mov.dr Cert.KernelIdeal.main_arg9)), ?_, ?_⟩
  · refine (θ_run Cert.KernelIdeal.defs _ _).mono (fun r h c => ⟨?_, args_of m _ c (h.1 c).1⟩) (Mov.run_main m hr g)
    obtain ⟨-, V, hV, hB⟩ := h.1 c
    funext i
    obtain ⟨i, rfl⟩ : ∃ k : Fin 16384, i = ix1 k := ⟨i 0, ValueIdx.eq_ix1 i⟩
    exact Mov.value hV hB i
  · refine (θ_run Cert.ReferenceIdeal.defs _ _).mono (fun r h c => ⟨(h c).1.trans ?_, (h c).2⟩) (Cert.ReferenceIdeal.Value.run (F := Ideal) m' g')
    obtain ⟨a0, a1, a2, a3, a4, a5, a6, a7, a8, a9⟩ := hagree c
    funext i
    obtain ⟨i, rfl⟩ : ∃ k : Fin 16384, i = ix1 k := ⟨i 0, ValueIdx.eq_ix1 i⟩
    have hu : (m' (c.tc.loc Cert.ReferenceIdeal.main_arg0) (ix1 i)).toNat < 1000000 := by rw [a0]; exact (hr c _).1
    have hm : (m' (c.tc.loc Cert.ReferenceIdeal.main_arg1) (ix1 i)).toNat < 100000 := by rw [a1]; exact (hr c _).2
    refine (Ref.res_at m' c i hu hm).trans ?_
    simp only [a0, a1, a2, a3, a4, a5, a6, a7, a8, a9]

end Cert.Proof
-- ==== Proof.lean ====
/-
  The certificate's claim, from the frames.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  frame_kernel, frame_kernelIdeal, frame_reference, frame_reference_pre, trivial, algebraic⟩

end Cert.Proof

end
